-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 128]⟩ ⟨2, ![2048, 128]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 256]⟩ ⟨2, ![128, 4096]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![256, 128]⟩ ⟨2, ![4096, 128]⟩ 0 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![128, 256]⟩ ⟨2, ![128, 4096]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![256, 128]⟩ ⟨2, ![4096, 128]⟩ 0 16 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![128, 256]⟩ ⟨2, ![128, 4096]⟩ 1 16 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![256, 128]⟩ ⟨2, ![4096, 128]⟩ 0 16 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v18) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x128 : Shape := ⟨2, ![128, 128]⟩
abbrev S128x256 : Shape := ⟨2, ![128, 256]⟩
abbrev S256x128 : Shape := ⟨2, ![256, 128]⟩
abbrev S2048x128 : Shape := ⟨2, ![2048, 128]⟩
abbrev S2x2048x128 : Shape := ⟨3, ![2, 2048, 128]⟩
abbrev S16x128x128 : Shape := ⟨3, ![16, 128, 128]⟩
abbrev S2x16x128x128 : Shape := ⟨4, ![2, 16, 128, 128]⟩
abbrev S2x16 : Shape := ⟨2, ![2, 16]⟩
abbrev S_ : Shape := ⟨0, ![]⟩
abbrev S1x128x128 : Shape := ⟨3, ![1, 128, 128]⟩
abbrev S1x1 : Shape := ⟨2, ![1, 1]⟩
abbrev S1x512x128 : Shape := ⟨3, ![1, 512, 128]⟩
abbrev S512x128 : Shape := ⟨2, ![512, 128]⟩
abbrev S512x256 : Shape := ⟨2, ![512, 256]⟩
abbrev S4x128x128 : Shape := ⟨3, ![4, 128, 128]⟩
abbrev S1x1x128x128 : Shape := ⟨4, ![1, 1, 128, 128]⟩
abbrev S1x16x128x128 : Shape := ⟨4, ![1, 16, 128, 128]⟩

abbrev nBuf : Space → Nat
  | .hbm => 8
  | .vmem => 11
  | .smem => 0
  | _ => 0

abbrev bufTy : (tb : Table) → Fin (tcTables nBuf tb) → BufTy
  | .hbm, ⟨0, _⟩ => ⟨S128x128, .bf16⟩
  | .hbm, ⟨1, _⟩ => ⟨S128x256, .bf16⟩
  | .hbm, ⟨2, _⟩ => ⟨S256x128, .bf16⟩
  | .hbm, ⟨3, _⟩ => ⟨S128x256, .bf16⟩
  | .hbm, ⟨4, _⟩ => ⟨S256x128, .bf16⟩
  | .hbm, ⟨5, _⟩ => ⟨S128x256, .bf16⟩
  | .hbm, ⟨6, _⟩ => ⟨S256x128, .bf16⟩
  | .hbm, ⟨7, _⟩ => ⟨S2048x128, .f32⟩
  | .local _ .vmem, ⟨0, _⟩ => ⟨S128x128, .bf16⟩
  | .local _ .vmem, ⟨1, _⟩ => ⟨S128x256, .bf16⟩
  | .local _ .vmem, ⟨2, _⟩ => ⟨S256x128, .bf16⟩
  | .local _ .vmem, ⟨3, _⟩ => ⟨S128x256, .bf16⟩
  | .local _ .vmem, ⟨4, _⟩ => ⟨S256x128, .bf16⟩
  | .local _ .vmem, ⟨5, _⟩ => ⟨S128x256, .bf16⟩
  | .local _ .vmem, ⟨6, _⟩ => ⟨S256x128, .bf16⟩
  | .local _ .vmem, ⟨7, _⟩ => ⟨S2048x128, .f32⟩
  | .local _ .vmem, ⟨8, _⟩ => ⟨S2x2048x128, .bf16⟩
  | .local _ .vmem, ⟨9, _⟩ => ⟨S16x128x128, .bf16⟩
  | .local _ .vmem, ⟨10, _⟩ => ⟨S2x16x128x128, .bf16⟩
  | _, _ => ⟨S128x128, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 136 → Bool
  | ⟨i, _⟩ => dmaSemScopedAt i

abbrev sig : RefSig :=
  (ofTc nBuf bufTy 1 136 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_74 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_65 : BitVec 32 := 1#32
  let v69 : BitVec 32 := Scalar.addi v2 c1_i32_65
  let c16_i32_66 : BitVec 32 := 16#32
  let v70 : BitVec 32 := Scalar.remsi v69 c16_i32_66
  let c1_i32_73 : BitVec 32 := 1#32
  let v71 : BitVec 32 := Scalar.muli v70 c1_i32_73
  let v72 : BitVec 32 := Scalar.addi c0_i32_74 v71
  v72.toNat
def k0_dev17 (d0 : Dev nD) : Nat :=
  let c0_i32_87 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_78 : BitVec 32 := 2#32
  let v81 : BitVec 32 := Scalar.addi v2 c2_i32_78
  let c16_i32_79 : BitVec 32 := 16#32
  let v82 : BitVec 32 := Scalar.remsi v81 c16_i32_79
  let c1_i32_86 : BitVec 32 := 1#32
  let v83 : BitVec 32 := Scalar.muli v82 c1_i32_86
  let v84 : BitVec 32 := Scalar.addi c0_i32_87 v83
  v84.toNat
def k0_dev18 (d0 : Dev nD) : Nat :=
  let c0_i32_100 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_91 : BitVec 32 := 3#32
  let v93 : BitVec 32 := Scalar.addi v2 c3_i32_91
  let c16_i32_92 : BitVec 32 := 16#32
  let v94 : BitVec 32 := Scalar.remsi v93 c16_i32_92
  let c1_i32_99 : BitVec 32 := 1#32
  let v95 : BitVec 32 := Scalar.muli v94 c1_i32_99
  let v96 : BitVec 32 := Scalar.addi c0_i32_100 v95
  v96.toNat
def k0_dev19 (d0 : Dev nD) : Nat :=
  let c0_i32_113 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_104 : BitVec 32 := 4#32
  let v105 : BitVec 32 := Scalar.addi v2 c4_i32_104
  let c16_i32_105 : BitVec 32 := 16#32
  let v106 : BitVec 32 := Scalar.remsi v105 c16_i32_105
  let c1_i32_112 : BitVec 32 := 1#32
  let v107 : BitVec 32 := Scalar.muli v106 c1_i32_112
  let v108 : BitVec 32 := Scalar.addi c0_i32_113 v107
  v108.toNat
def k0_dev20 (d0 : Dev nD) : Nat :=
  let c0_i32_126 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_117 : BitVec 32 := 5#32
  let v117 : BitVec 32 := Scalar.addi v2 c5_i32_117
  let c16_i32_118 : BitVec 32 := 16#32
  let v118 : BitVec 32 := Scalar.remsi v117 c16_i32_118
  let c1_i32_125 : BitVec 32 := 1#32
  let v119 : BitVec 32 := Scalar.muli v118 c1_i32_125
  let v120 : BitVec 32 := Scalar.addi c0_i32_126 v119
  v120.toNat
def k0_dev21 (d0 : Dev nD) : Nat :=
  let c0_i32_139 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_130 : BitVec 32 := 6#32
  let v129 : BitVec 32 := Scalar.addi v2 c6_i32_130
  let c16_i32_131 : BitVec 32 := 16#32
  let v130 : BitVec 32 := Scalar.remsi v129 c16_i32_131
  let c1_i32_138 : BitVec 32 := 1#32
  let v131 : BitVec 32 := Scalar.muli v130 c1_i32_138
  let v132 : BitVec 32 := Scalar.addi c0_i32_139 v131
  v132.toNat
def k0_dev22 (d0 : Dev nD) : Nat :=
  let c0_i32_152 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_143 : BitVec 32 := 7#32
  let v141 : BitVec 32 := Scalar.addi v2 c7_i32_143
  let c16_i32_144 : BitVec 32 := 16#32
  let v142 : BitVec 32 := Scalar.remsi v141 c16_i32_144
  let c1_i32_151 : BitVec 32 := 1#32
  let v143 : BitVec 32 := Scalar.muli v142 c1_i32_151
  let v144 : BitVec 32 := Scalar.addi c0_i32_152 v143
  v144.toNat
def k0_dev23 (d0 : Dev nD) : Nat :=
  let c0_i32_165 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_156 : BitVec 32 := 8#32
  let v153 : BitVec 32 := Scalar.addi v2 c8_i32_156
  let c16_i32_157 : BitVec 32 := 16#32
  let v154 : BitVec 32 := Scalar.remsi v153 c16_i32_157
  let c1_i32_164 : BitVec 32 := 1#32
  let v155 : BitVec 32 := Scalar.muli v154 c1_i32_164
  let v156 : BitVec 32 := Scalar.addi c0_i32_165 v155
  v156.toNat
def k0_dev24 (d0 : Dev nD) : Nat :=
  let c0_i32_178 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_169 : BitVec 32 := 9#32
  let v165 : BitVec 32 := Scalar.addi v2 c9_i32_169
  let c16_i32_170 : BitVec 32 := 16#32
  let v166 : BitVec 32 := Scalar.remsi v165 c16_i32_170
  let c1_i32_177 : BitVec 32 := 1#32
  let v167 : BitVec 32 := Scalar.muli v166 c1_i32_177
  let v168 : BitVec 32 := Scalar.addi c0_i32_178 v167
  v168.toNat
def k0_dev25 (d0 : Dev nD) : Nat :=
  let c0_i32_191 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_182 : BitVec 32 := 10#32
  let v177 : BitVec 32 := Scalar.addi v2 c10_i32_182
  let c16_i32_183 : BitVec 32 := 16#32
  let v178 : BitVec 32 := Scalar.remsi v177 c16_i32_183
  let c1_i32_190 : BitVec 32 := 1#32
  let v179 : BitVec 32 := Scalar.muli v178 c1_i32_190
  let v180 : BitVec 32 := Scalar.addi c0_i32_191 v179
  v180.toNat
def k0_dev26 (d0 : Dev nD) : Nat :=
  let c0_i32_204 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_195 : BitVec 32 := 11#32
  let v189 : BitVec 32 := Scalar.addi v2 c11_i32_195
  let c16_i32_196 : BitVec 32 := 16#32
  let v190 : BitVec 32 := Scalar.remsi v189 c16_i32_196
  let c1_i32_203 : BitVec 32 := 1#32
  let v191 : BitVec 32 := Scalar.muli v190 c1_i32_203
  let v192 : BitVec 32 := Scalar.addi c0_i32_204 v191
  v192.toNat
def k0_dev27 (d0 : Dev nD) : Nat :=
  let c0_i32_217 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_208 : BitVec 32 := 12#32
  let v201 : BitVec 32 := Scalar.addi v2 c12_i32_208
  let c16_i32_209 : BitVec 32 := 16#32
  let v202 : BitVec 32 := Scalar.remsi v201 c16_i32_209
  let c1_i32_216 : BitVec 32 := 1#32
  let v203 : BitVec 32 := Scalar.muli v202 c1_i32_216
  let v204 : BitVec 32 := Scalar.addi c0_i32_217 v203
  v204.toNat
def k0_dev28 (d0 : Dev nD) : Nat :=
  let c0_i32_230 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_221 : BitVec 32 := 13#32
  let v213 : BitVec 32 := Scalar.addi v2 c13_i32_221
  let c16_i32_222 : BitVec 32 := 16#32
  let v214 : BitVec 32 := Scalar.remsi v213 c16_i32_222
  let c1_i32_229 : BitVec 32 := 1#32
  let v215 : BitVec 32 := Scalar.muli v214 c1_i32_229
  let v216 : BitVec 32 := Scalar.addi c0_i32_230 v215
  v216.toNat
def k0_dev29 (d0 : Dev nD) : Nat :=
  let c0_i32_243 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_234 : BitVec 32 := 14#32
  let v225 : BitVec 32 := Scalar.addi v2 c14_i32_234
  let c16_i32_235 : BitVec 32 := 16#32
  let v226 : BitVec 32 := Scalar.remsi v225 c16_i32_235
  let c1_i32_242 : BitVec 32 := 1#32
  let v227 : BitVec 32 := Scalar.muli v226 c1_i32_242
  let v228 : BitVec 32 := Scalar.addi c0_i32_243 v227
  v228.toNat
def k0_dev30 (d0 : Dev nD) : Nat :=
  let c0_i32_256 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_247 : BitVec 32 := 15#32
  let v237 : BitVec 32 := Scalar.addi v2 c15_i32_247
  let c16_i32_248 : BitVec 32 := 16#32
  let v238 : BitVec 32 := Scalar.remsi v237 c16_i32_248
  let c1_i32_255 : BitVec 32 := 1#32
  let v239 : BitVec 32 := Scalar.muli v238 c1_i32_255
  let v240 : BitVec 32 := Scalar.addi c0_i32_256 v239
  v240.toNat
def k0_dev31 (d0 : Dev nD) : Nat :=
  let c0_i32_326 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_315 : BitVec 32 := 1#32
  let v294 : BitVec 32 := Scalar.subi v2 c1_i32_315
  let c16_i32_316 : BitVec 32 := 16#32
  let v295 : BitVec 32 := Scalar.addi v294 c16_i32_316
  let c16_i32_317 : BitVec 32 := 16#32
  let v296 : BitVec 32 := Scalar.remsi v295 c16_i32_317
  let c1_i32_325 : BitVec 32 := 1#32
  let v297 : BitVec 32 := Scalar.muli v296 c1_i32_325
  let v298 : BitVec 32 := Scalar.addi c0_i32_326 v297
  v298.toNat
def k0_dev32 (d0 : Dev nD) : Nat :=
  let c0_i32_342 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_331 : BitVec 32 := 2#32
  let v307 : BitVec 32 := Scalar.subi v2 c2_i32_331
  let c16_i32_332 : BitVec 32 := 16#32
  let v308 : BitVec 32 := Scalar.addi v307 c16_i32_332
  let c16_i32_333 : BitVec 32 := 16#32
  let v309 : BitVec 32 := Scalar.remsi v308 c16_i32_333
  let c1_i32_341 : BitVec 32 := 1#32
  let v310 : BitVec 32 := Scalar.muli v309 c1_i32_341
  let v311 : BitVec 32 := Scalar.addi c0_i32_342 v310
  v311.toNat
def k0_dev33 (d0 : Dev nD) : Nat :=
  let c0_i32_358 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_347 : BitVec 32 := 3#32
  let v320 : BitVec 32 := Scalar.subi v2 c3_i32_347
  let c16_i32_348 : BitVec 32 := 16#32
  let v321 : BitVec 32 := Scalar.addi v320 c16_i32_348
  let c16_i32_349 : BitVec 32 := 16#32
  let v322 : BitVec 32 := Scalar.remsi v321 c16_i32_349
  let c1_i32_357 : BitVec 32 := 1#32
  let v323 : BitVec 32 := Scalar.muli v322 c1_i32_357
  let v324 : BitVec 32 := Scalar.addi c0_i32_358 v323
  v324.toNat
def k0_dev34 (d0 : Dev nD) : Nat :=
  let c0_i32_429 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_418 : BitVec 32 := 4#32
  let v377 : BitVec 32 := Scalar.subi v2 c4_i32_418
  let c16_i32_419 : BitVec 32 := 16#32
  let v378 : BitVec 32 := Scalar.addi v377 c16_i32_419
  let c16_i32_420 : BitVec 32 := 16#32
  let v379 : BitVec 32 := Scalar.remsi v378 c16_i32_420
  let c1_i32_428 : BitVec 32 := 1#32
  let v380 : BitVec 32 := Scalar.muli v379 c1_i32_428
  let v381 : BitVec 32 := Scalar.addi c0_i32_429 v380
  v381.toNat
def k0_dev35 (d0 : Dev nD) : Nat :=
  let c0_i32_445 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_434 : BitVec 32 := 5#32
  let v390 : BitVec 32 := Scalar.subi v2 c5_i32_434
  let c16_i32_435 : BitVec 32 := 16#32
  let v391 : BitVec 32 := Scalar.addi v390 c16_i32_435
  let c16_i32_436 : BitVec 32 := 16#32
  let v392 : BitVec 32 := Scalar.remsi v391 c16_i32_436
  let c1_i32_444 : BitVec 32 := 1#32
  let v393 : BitVec 32 := Scalar.muli v392 c1_i32_444
  let v394 : BitVec 32 := Scalar.addi c0_i32_445 v393
  v394.toNat
def k0_dev36 (d0 : Dev nD) : Nat :=
  let c0_i32_461 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_450 : BitVec 32 := 6#32
  let v403 : BitVec 32 := Scalar.subi v2 c6_i32_450
  let c16_i32_451 : BitVec 32 := 16#32
  let v404 : BitVec 32 := Scalar.addi v403 c16_i32_451
  let c16_i32_452 : BitVec 32 := 16#32
  let v405 : BitVec 32 := Scalar.remsi v404 c16_i32_452
  let c1_i32_460 : BitVec 32 := 1#32
  let v406 : BitVec 32 := Scalar.muli v405 c1_i32_460
  let v407 : BitVec 32 := Scalar.addi c0_i32_461 v406
  v407.toNat
def k0_dev37 (d0 : Dev nD) : Nat :=
  let c0_i32_477 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_466 : BitVec 32 := 7#32
  let v416 : BitVec 32 := Scalar.subi v2 c7_i32_466
  let c16_i32_467 : BitVec 32 := 16#32
  let v417 : BitVec 32 := Scalar.addi v416 c16_i32_467
  let c16_i32_468 : BitVec 32 := 16#32
  let v418 : BitVec 32 := Scalar.remsi v417 c16_i32_468
  let c1_i32_476 : BitVec 32 := 1#32
  let v419 : BitVec 32 := Scalar.muli v418 c1_i32_476
  let v420 : BitVec 32 := Scalar.addi c0_i32_477 v419
  v420.toNat
def k0_dev38 (d0 : Dev nD) : Nat :=
  let c0_i32_548 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_537 : BitVec 32 := 8#32
  let v473 : BitVec 32 := Scalar.subi v2 c8_i32_537
  let c16_i32_538 : BitVec 32 := 16#32
  let v474 : BitVec 32 := Scalar.addi v473 c16_i32_538
  let c16_i32_539 : BitVec 32 := 16#32
  let v475 : BitVec 32 := Scalar.remsi v474 c16_i32_539
  let c1_i32_547 : BitVec 32 := 1#32
  let v476 : BitVec 32 := Scalar.muli v475 c1_i32_547
  let v477 : BitVec 32 := Scalar.addi c0_i32_548 v476
  v477.toNat
def k0_dev39 (d0 : Dev nD) : Nat :=
  let c0_i32_564 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_553 : BitVec 32 := 9#32
  let v486 : BitVec 32 := Scalar.subi v2 c9_i32_553
  let c16_i32_554 : BitVec 32 := 16#32
  let v487 : BitVec 32 := Scalar.addi v486 c16_i32_554
  let c16_i32_555 : BitVec 32 := 16#32
  let v488 : BitVec 32 := Scalar.remsi v487 c16_i32_555
  let c1_i32_563 : BitVec 32 := 1#32
  let v489 : BitVec 32 := Scalar.muli v488 c1_i32_563
  let v490 : BitVec 32 := Scalar.addi c0_i32_564 v489
  v490.toNat
def k0_dev40 (d0 : Dev nD) : Nat :=
  let c0_i32_580 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_569 : BitVec 32 := 10#32
  let v499 : BitVec 32 := Scalar.subi v2 c10_i32_569
  let c16_i32_570 : BitVec 32 := 16#32
  let v500 : BitVec 32 := Scalar.addi v499 c16_i32_570
  let c16_i32_571 : BitVec 32 := 16#32
  let v501 : BitVec 32 := Scalar.remsi v500 c16_i32_571
  let c1_i32_579 : BitVec 32 := 1#32
  let v502 : BitVec 32 := Scalar.muli v501 c1_i32_579
  let v503 : BitVec 32 := Scalar.addi c0_i32_580 v502
  v503.toNat
def k0_dev41 (d0 : Dev nD) : Nat :=
  let c0_i32_596 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_585 : BitVec 32 := 11#32
  let v512 : BitVec 32 := Scalar.subi v2 c11_i32_585
  let c16_i32_586 : BitVec 32 := 16#32
  let v513 : BitVec 32 := Scalar.addi v512 c16_i32_586
  let c16_i32_587 : BitVec 32 := 16#32
  let v514 : BitVec 32 := Scalar.remsi v513 c16_i32_587
  let c1_i32_595 : BitVec 32 := 1#32
  let v515 : BitVec 32 := Scalar.muli v514 c1_i32_595
  let v516 : BitVec 32 := Scalar.addi c0_i32_596 v515
  v516.toNat
def k0_dev42 (d0 : Dev nD) : Nat :=
  let c0_i32_667 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_656 : BitVec 32 := 12#32
  let v569 : BitVec 32 := Scalar.subi v2 c12_i32_656
  let c16_i32_657 : BitVec 32 := 16#32
  let v570 : BitVec 32 := Scalar.addi v569 c16_i32_657
  let c16_i32_658 : BitVec 32 := 16#32
  let v571 : BitVec 32 := Scalar.remsi v570 c16_i32_658
  let c1_i32_666 : BitVec 32 := 1#32
  let v572 : BitVec 32 := Scalar.muli v571 c1_i32_666
  let v573 : BitVec 32 := Scalar.addi c0_i32_667 v572
  v573.toNat
def k0_dev43 (d0 : Dev nD) : Nat :=
  let c0_i32_683 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_672 : BitVec 32 := 13#32
  let v582 : BitVec 32 := Scalar.subi v2 c13_i32_672
  let c16_i32_673 : BitVec 32 := 16#32
  let v583 : BitVec 32 := Scalar.addi v582 c16_i32_673
  let c16_i32_674 : BitVec 32 := 16#32
  let v584 : BitVec 32 := Scalar.remsi v583 c16_i32_674
  let c1_i32_682 : BitVec 32 := 1#32
  let v585 : BitVec 32 := Scalar.muli v584 c1_i32_682
  let v586 : BitVec 32 := Scalar.addi c0_i32_683 v585
  v586.toNat
def k0_dev44 (d0 : Dev nD) : Nat :=
  let c0_i32_699 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_688 : BitVec 32 := 14#32
  let v595 : BitVec 32 := Scalar.subi v2 c14_i32_688
  let c16_i32_689 : BitVec 32 := 16#32
  let v596 : BitVec 32 := Scalar.addi v595 c16_i32_689
  let c16_i32_690 : BitVec 32 := 16#32
  let v597 : BitVec 32 := Scalar.remsi v596 c16_i32_690
  let c1_i32_698 : BitVec 32 := 1#32
  let v598 : BitVec 32 := Scalar.muli v597 c1_i32_698
  let v599 : BitVec 32 := Scalar.addi c0_i32_699 v598
  v599.toNat
def k0_dev45 (d0 : Dev nD) : Nat :=
  let c0_i32_715 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_704 : BitVec 32 := 15#32
  let v608 : BitVec 32 := Scalar.subi v2 c15_i32_704
  let c16_i32_705 : BitVec 32 := 16#32
  let v609 : BitVec 32 := Scalar.addi v608 c16_i32_705
  let c16_i32_706 : BitVec 32 := 16#32
  let v610 : BitVec 32 := Scalar.remsi v609 c16_i32_706
  let c1_i32_714 : BitVec 32 := 1#32
  let v611 : BitVec 32 := Scalar.muli v610 c1_i32_714
  let v612 : BitVec 32 := Scalar.addi c0_i32_715 v611
  v612.toNat
def k0_dev46 (d0 : Dev nD) : Nat :=
  let c0_i32_931 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_922 : BitVec 32 := 1#32
  let v749 : BitVec 32 := Scalar.addi v2 c1_i32_922
  let c16_i32_923 : BitVec 32 := 16#32
  let v750 : BitVec 32 := Scalar.remsi v749 c16_i32_923
  let c1_i32_930 : BitVec 32 := 1#32
  let v751 : BitVec 32 := Scalar.muli v750 c1_i32_930
  let v752 : BitVec 32 := Scalar.addi c0_i32_931 v751
  v752.toNat
def k0_dev47 (d0 : Dev nD) : Nat :=
  let c0_i32_945 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_936 : BitVec 32 := 2#32
  let v761 : BitVec 32 := Scalar.addi v2 c2_i32_936
  let c16_i32_937 : BitVec 32 := 16#32
  let v762 : BitVec 32 := Scalar.remsi v761 c16_i32_937
  let c1_i32_944 : BitVec 32 := 1#32
  let v763 : BitVec 32 := Scalar.muli v762 c1_i32_944
  let v764 : BitVec 32 := Scalar.addi c0_i32_945 v763
  v764.toNat
def k0_dev48 (d0 : Dev nD) : Nat :=
  let c0_i32_959 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_950 : BitVec 32 := 3#32
  let v773 : BitVec 32 := Scalar.addi v2 c3_i32_950
  let c16_i32_951 : BitVec 32 := 16#32
  let v774 : BitVec 32 := Scalar.remsi v773 c16_i32_951
  let c1_i32_958 : BitVec 32 := 1#32
  let v775 : BitVec 32 := Scalar.muli v774 c1_i32_958
  let v776 : BitVec 32 := Scalar.addi c0_i32_959 v775
  v776.toNat
def k0_dev49 (d0 : Dev nD) : Nat :=
  let c0_i32_973 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_964 : BitVec 32 := 4#32
  let v785 : BitVec 32 := Scalar.addi v2 c4_i32_964
  let c16_i32_965 : BitVec 32 := 16#32
  let v786 : BitVec 32 := Scalar.remsi v785 c16_i32_965
  let c1_i32_972 : BitVec 32 := 1#32
  let v787 : BitVec 32 := Scalar.muli v786 c1_i32_972
  let v788 : BitVec 32 := Scalar.addi c0_i32_973 v787
  v788.toNat
def k0_dev50 (d0 : Dev nD) : Nat :=
  let c0_i32_987 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_978 : BitVec 32 := 5#32
  let v797 : BitVec 32 := Scalar.addi v2 c5_i32_978
  let c16_i32_979 : BitVec 32 := 16#32
  let v798 : BitVec 32 := Scalar.remsi v797 c16_i32_979
  let c1_i32_986 : BitVec 32 := 1#32
  let v799 : BitVec 32 := Scalar.muli v798 c1_i32_986
  let v800 : BitVec 32 := Scalar.addi c0_i32_987 v799
  v800.toNat
def k0_dev51 (d0 : Dev nD) : Nat :=
  let c0_i32_1001 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_992 : BitVec 32 := 6#32
  let v809 : BitVec 32 := Scalar.addi v2 c6_i32_992
  let c16_i32_993 : BitVec 32 := 16#32
  let v810 : BitVec 32 := Scalar.remsi v809 c16_i32_993
  let c1_i32_1000 : BitVec 32 := 1#32
  let v811 : BitVec 32 := Scalar.muli v810 c1_i32_1000
  let v812 : BitVec 32 := Scalar.addi c0_i32_1001 v811
  v812.toNat
def k0_dev52 (d0 : Dev nD) : Nat :=
  let c0_i32_1015 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1006 : BitVec 32 := 7#32
  let v821 : BitVec 32 := Scalar.addi v2 c7_i32_1006
  let c16_i32_1007 : BitVec 32 := 16#32
  let v822 : BitVec 32 := Scalar.remsi v821 c16_i32_1007
  let c1_i32_1014 : BitVec 32 := 1#32
  let v823 : BitVec 32 := Scalar.muli v822 c1_i32_1014
  let v824 : BitVec 32 := Scalar.addi c0_i32_1015 v823
  v824.toNat
def k0_dev53 (d0 : Dev nD) : Nat :=
  let c0_i32_1029 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1020 : BitVec 32 := 8#32
  let v833 : BitVec 32 := Scalar.addi v2 c8_i32_1020
  let c16_i32_1021 : BitVec 32 := 16#32
  let v834 : BitVec 32 := Scalar.remsi v833 c16_i32_1021
  let c1_i32_1028 : BitVec 32 := 1#32
  let v835 : BitVec 32 := Scalar.muli v834 c1_i32_1028
  let v836 : BitVec 32 := Scalar.addi c0_i32_1029 v835
  v836.toNat
def k0_dev54 (d0 : Dev nD) : Nat :=
  let c0_i32_1043 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1034 : BitVec 32 := 9#32
  let v845 : BitVec 32 := Scalar.addi v2 c9_i32_1034
  let c16_i32_1035 : BitVec 32 := 16#32
  let v846 : BitVec 32 := Scalar.remsi v845 c16_i32_1035
  let c1_i32_1042 : BitVec 32 := 1#32
  let v847 : BitVec 32 := Scalar.muli v846 c1_i32_1042
  let v848 : BitVec 32 := Scalar.addi c0_i32_1043 v847
  v848.toNat
def k0_dev55 (d0 : Dev nD) : Nat :=
  let c0_i32_1057 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1048 : BitVec 32 := 10#32
  let v857 : BitVec 32 := Scalar.addi v2 c10_i32_1048
  let c16_i32_1049 : BitVec 32 := 16#32
  let v858 : BitVec 32 := Scalar.remsi v857 c16_i32_1049
  let c1_i32_1056 : BitVec 32 := 1#32
  let v859 : BitVec 32 := Scalar.muli v858 c1_i32_1056
  let v860 : BitVec 32 := Scalar.addi c0_i32_1057 v859
  v860.toNat
def k0_dev56 (d0 : Dev nD) : Nat :=
  let c0_i32_1071 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1062 : BitVec 32 := 11#32
  let v869 : BitVec 32 := Scalar.addi v2 c11_i32_1062
  let c16_i32_1063 : BitVec 32 := 16#32
  let v870 : BitVec 32 := Scalar.remsi v869 c16_i32_1063
  let c1_i32_1070 : BitVec 32 := 1#32
  let v871 : BitVec 32 := Scalar.muli v870 c1_i32_1070
  let v872 : BitVec 32 := Scalar.addi c0_i32_1071 v871
  v872.toNat
def k0_dev57 (d0 : Dev nD) : Nat :=
  let c0_i32_1085 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1076 : BitVec 32 := 12#32
  let v881 : BitVec 32 := Scalar.addi v2 c12_i32_1076
  let c16_i32_1077 : BitVec 32 := 16#32
  let v882 : BitVec 32 := Scalar.remsi v881 c16_i32_1077
  let c1_i32_1084 : BitVec 32 := 1#32
  let v883 : BitVec 32 := Scalar.muli v882 c1_i32_1084
  let v884 : BitVec 32 := Scalar.addi c0_i32_1085 v883
  v884.toNat
def k0_dev58 (d0 : Dev nD) : Nat :=
  let c0_i32_1099 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1090 : BitVec 32 := 13#32
  let v893 : BitVec 32 := Scalar.addi v2 c13_i32_1090
  let c16_i32_1091 : BitVec 32 := 16#32
  let v894 : BitVec 32 := Scalar.remsi v893 c16_i32_1091
  let c1_i32_1098 : BitVec 32 := 1#32
  let v895 : BitVec 32 := Scalar.muli v894 c1_i32_1098
  let v896 : BitVec 32 := Scalar.addi c0_i32_1099 v895
  v896.toNat
def k0_dev59 (d0 : Dev nD) : Nat :=
  let c0_i32_1113 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1104 : BitVec 32 := 14#32
  let v905 : BitVec 32 := Scalar.addi v2 c14_i32_1104
  let c16_i32_1105 : BitVec 32 := 16#32
  let v906 : BitVec 32 := Scalar.remsi v905 c16_i32_1105
  let c1_i32_1112 : BitVec 32 := 1#32
  let v907 : BitVec 32 := Scalar.muli v906 c1_i32_1112
  let v908 : BitVec 32 := Scalar.addi c0_i32_1113 v907
  v908.toNat
def k0_dev60 (d0 : Dev nD) : Nat :=
  let c0_i32_1127 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1118 : BitVec 32 := 15#32
  let v917 : BitVec 32 := Scalar.addi v2 c15_i32_1118
  let c16_i32_1119 : BitVec 32 := 16#32
  let v918 : BitVec 32 := Scalar.remsi v917 c16_i32_1119
  let c1_i32_1126 : BitVec 32 := 1#32
  let v919 : BitVec 32 := Scalar.muli v918 c1_i32_1126
  let v920 : BitVec 32 := Scalar.addi c0_i32_1127 v919
  v920.toNat
def k0_dev61 (d0 : Dev nD) : Nat :=
  let c0_i32_1544 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1533 : BitVec 32 := 1#32
  let v1154 : BitVec 32 := Scalar.subi v2 c1_i32_1533
  let c16_i32_1534 : BitVec 32 := 16#32
  let v1155 : BitVec 32 := Scalar.addi v1154 c16_i32_1534
  let c16_i32_1535 : BitVec 32 := 16#32
  let v1156 : BitVec 32 := Scalar.remsi v1155 c16_i32_1535
  let c1_i32_1543 : BitVec 32 := 1#32
  let v1157 : BitVec 32 := Scalar.muli v1156 c1_i32_1543
  let v1158 : BitVec 32 := Scalar.addi c0_i32_1544 v1157
  v1158.toNat
def k0_dev62 (d0 : Dev nD) : Nat :=
  let c0_i32_1560 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1549 : BitVec 32 := 2#32
  let v1167 : BitVec 32 := Scalar.subi v2 c2_i32_1549
  let c16_i32_1550 : BitVec 32 := 16#32
  let v1168 : BitVec 32 := Scalar.addi v1167 c16_i32_1550
  let c16_i32_1551 : BitVec 32 := 16#32
  let v1169 : BitVec 32 := Scalar.remsi v1168 c16_i32_1551
  let c1_i32_1559 : BitVec 32 := 1#32
  let v1170 : BitVec 32 := Scalar.muli v1169 c1_i32_1559
  let v1171 : BitVec 32 := Scalar.addi c0_i32_1560 v1170
  v1171.toNat
def k0_dev63 (d0 : Dev nD) : Nat :=
  let c0_i32_1576 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1565 : BitVec 32 := 3#32
  let v1180 : BitVec 32 := Scalar.subi v2 c3_i32_1565
  let c16_i32_1566 : BitVec 32 := 16#32
  let v1181 : BitVec 32 := Scalar.addi v1180 c16_i32_1566
  let c16_i32_1567 : BitVec 32 := 16#32
  let v1182 : BitVec 32 := Scalar.remsi v1181 c16_i32_1567
  let c1_i32_1575 : BitVec 32 := 1#32
  let v1183 : BitVec 32 := Scalar.muli v1182 c1_i32_1575
  let v1184 : BitVec 32 := Scalar.addi c0_i32_1576 v1183
  v1184.toNat
def k0_dev64 (d0 : Dev nD) : Nat :=
  let c0_i32_1649 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1638 : BitVec 32 := 4#32
  let v1237 : BitVec 32 := Scalar.subi v2 c4_i32_1638
  let c16_i32_1639 : BitVec 32 := 16#32
  let v1238 : BitVec 32 := Scalar.addi v1237 c16_i32_1639
  let c16_i32_1640 : BitVec 32 := 16#32
  let v1239 : BitVec 32 := Scalar.remsi v1238 c16_i32_1640
  let c1_i32_1648 : BitVec 32 := 1#32
  let v1240 : BitVec 32 := Scalar.muli v1239 c1_i32_1648
  let v1241 : BitVec 32 := Scalar.addi c0_i32_1649 v1240
  v1241.toNat
def k0_dev65 (d0 : Dev nD) : Nat :=
  let c0_i32_1665 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1654 : BitVec 32 := 5#32
  let v1250 : BitVec 32 := Scalar.subi v2 c5_i32_1654
  let c16_i32_1655 : BitVec 32 := 16#32
  let v1251 : BitVec 32 := Scalar.addi v1250 c16_i32_1655
  let c16_i32_1656 : BitVec 32 := 16#32
  let v1252 : BitVec 32 := Scalar.remsi v1251 c16_i32_1656
  let c1_i32_1664 : BitVec 32 := 1#32
  let v1253 : BitVec 32 := Scalar.muli v1252 c1_i32_1664
  let v1254 : BitVec 32 := Scalar.addi c0_i32_1665 v1253
  v1254.toNat
def k0_dev66 (d0 : Dev nD) : Nat :=
  let c0_i32_1681 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1670 : BitVec 32 := 6#32
  let v1263 : BitVec 32 := Scalar.subi v2 c6_i32_1670
  let c16_i32_1671 : BitVec 32 := 16#32
  let v1264 : BitVec 32 := Scalar.addi v1263 c16_i32_1671
  let c16_i32_1672 : BitVec 32 := 16#32
  let v1265 : BitVec 32 := Scalar.remsi v1264 c16_i32_1672
  let c1_i32_1680 : BitVec 32 := 1#32
  let v1266 : BitVec 32 := Scalar.muli v1265 c1_i32_1680
  let v1267 : BitVec 32 := Scalar.addi c0_i32_1681 v1266
  v1267.toNat
def k0_dev67 (d0 : Dev nD) : Nat :=
  let c0_i32_1697 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1686 : BitVec 32 := 7#32
  let v1276 : BitVec 32 := Scalar.subi v2 c7_i32_1686
  let c16_i32_1687 : BitVec 32 := 16#32
  let v1277 : BitVec 32 := Scalar.addi v1276 c16_i32_1687
  let c16_i32_1688 : BitVec 32 := 16#32
  let v1278 : BitVec 32 := Scalar.remsi v1277 c16_i32_1688
  let c1_i32_1696 : BitVec 32 := 1#32
  let v1279 : BitVec 32 := Scalar.muli v1278 c1_i32_1696
  let v1280 : BitVec 32 := Scalar.addi c0_i32_1697 v1279
  v1280.toNat
def k0_dev68 (d0 : Dev nD) : Nat :=
  let c0_i32_1770 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1759 : BitVec 32 := 8#32
  let v1333 : BitVec 32 := Scalar.subi v2 c8_i32_1759
  let c16_i32_1760 : BitVec 32 := 16#32
  let v1334 : BitVec 32 := Scalar.addi v1333 c16_i32_1760
  let c16_i32_1761 : BitVec 32 := 16#32
  let v1335 : BitVec 32 := Scalar.remsi v1334 c16_i32_1761
  let c1_i32_1769 : BitVec 32 := 1#32
  let v1336 : BitVec 32 := Scalar.muli v1335 c1_i32_1769
  let v1337 : BitVec 32 := Scalar.addi c0_i32_1770 v1336
  v1337.toNat
def k0_dev69 (d0 : Dev nD) : Nat :=
  let c0_i32_1786 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1775 : BitVec 32 := 9#32
  let v1346 : BitVec 32 := Scalar.subi v2 c9_i32_1775
  let c16_i32_1776 : BitVec 32 := 16#32
  let v1347 : BitVec 32 := Scalar.addi v1346 c16_i32_1776
  let c16_i32_1777 : BitVec 32 := 16#32
  let v1348 : BitVec 32 := Scalar.remsi v1347 c16_i32_1777
  let c1_i32_1785 : BitVec 32 := 1#32
  let v1349 : BitVec 32 := Scalar.muli v1348 c1_i32_1785
  let v1350 : BitVec 32 := Scalar.addi c0_i32_1786 v1349
  v1350.toNat
def k0_dev70 (d0 : Dev nD) : Nat :=
  let c0_i32_1802 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1791 : BitVec 32 := 10#32
  let v1359 : BitVec 32 := Scalar.subi v2 c10_i32_1791
  let c16_i32_1792 : BitVec 32 := 16#32
  let v1360 : BitVec 32 := Scalar.addi v1359 c16_i32_1792
  let c16_i32_1793 : BitVec 32 := 16#32
  let v1361 : BitVec 32 := Scalar.remsi v1360 c16_i32_1793
  let c1_i32_1801 : BitVec 32 := 1#32
  let v1362 : BitVec 32 := Scalar.muli v1361 c1_i32_1801
  let v1363 : BitVec 32 := Scalar.addi c0_i32_1802 v1362
  v1363.toNat
def k0_dev71 (d0 : Dev nD) : Nat :=
  let c0_i32_1818 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1807 : BitVec 32 := 11#32
  let v1372 : BitVec 32 := Scalar.subi v2 c11_i32_1807
  let c16_i32_1808 : BitVec 32 := 16#32
  let v1373 : BitVec 32 := Scalar.addi v1372 c16_i32_1808
  let c16_i32_1809 : BitVec 32 := 16#32
  let v1374 : BitVec 32 := Scalar.remsi v1373 c16_i32_1809
  let c1_i32_1817 : BitVec 32 := 1#32
  let v1375 : BitVec 32 := Scalar.muli v1374 c1_i32_1817
  let v1376 : BitVec 32 := Scalar.addi c0_i32_1818 v1375
  v1376.toNat
def k0_dev72 (d0 : Dev nD) : Nat :=
  let c0_i32_1891 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1880 : BitVec 32 := 12#32
  let v1429 : BitVec 32 := Scalar.subi v2 c12_i32_1880
  let c16_i32_1881 : BitVec 32 := 16#32
  let v1430 : BitVec 32 := Scalar.addi v1429 c16_i32_1881
  let c16_i32_1882 : BitVec 32 := 16#32
  let v1431 : BitVec 32 := Scalar.remsi v1430 c16_i32_1882
  let c1_i32_1890 : BitVec 32 := 1#32
  let v1432 : BitVec 32 := Scalar.muli v1431 c1_i32_1890
  let v1433 : BitVec 32 := Scalar.addi c0_i32_1891 v1432
  v1433.toNat
def k0_dev73 (d0 : Dev nD) : Nat :=
  let c0_i32_1907 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1896 : BitVec 32 := 13#32
  let v1442 : BitVec 32 := Scalar.subi v2 c13_i32_1896
  let c16_i32_1897 : BitVec 32 := 16#32
  let v1443 : BitVec 32 := Scalar.addi v1442 c16_i32_1897
  let c16_i32_1898 : BitVec 32 := 16#32
  let v1444 : BitVec 32 := Scalar.remsi v1443 c16_i32_1898
  let c1_i32_1906 : BitVec 32 := 1#32
  let v1445 : BitVec 32 := Scalar.muli v1444 c1_i32_1906
  let v1446 : BitVec 32 := Scalar.addi c0_i32_1907 v1445
  v1446.toNat
def k0_dev74 (d0 : Dev nD) : Nat :=
  let c0_i32_1923 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1912 : BitVec 32 := 14#32
  let v1455 : BitVec 32 := Scalar.subi v2 c14_i32_1912
  let c16_i32_1913 : BitVec 32 := 16#32
  let v1456 : BitVec 32 := Scalar.addi v1455 c16_i32_1913
  let c16_i32_1914 : BitVec 32 := 16#32
  let v1457 : BitVec 32 := Scalar.remsi v1456 c16_i32_1914
  let c1_i32_1922 : BitVec 32 := 1#32
  let v1458 : BitVec 32 := Scalar.muli v1457 c1_i32_1922
  let v1459 : BitVec 32 := Scalar.addi c0_i32_1923 v1458
  v1459.toNat
def k0_dev75 (d0 : Dev nD) : Nat :=
  let c0_i32_1939 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1928 : BitVec 32 := 15#32
  let v1468 : BitVec 32 := Scalar.subi v2 c15_i32_1928
  let c16_i32_1929 : BitVec 32 := 16#32
  let v1469 : BitVec 32 := Scalar.addi v1468 c16_i32_1929
  let c16_i32_1930 : BitVec 32 := 16#32
  let v1470 : BitVec 32 := Scalar.remsi v1469 c16_i32_1930
  let c1_i32_1938 : BitVec 32 := 1#32
  let v1471 : BitVec 32 := Scalar.muli v1470 c1_i32_1938
  let v1472 : BitVec 32 := Scalar.addi c0_i32_1939 v1471
  v1472.toNat
def k0_dev76 (d0 : Dev nD) : Nat :=
  let c0_i32_2156 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2147 : BitVec 32 := 1#32
  let v1609 : BitVec 32 := Scalar.addi v2 c1_i32_2147
  let c16_i32_2148 : BitVec 32 := 16#32
  let v1610 : BitVec 32 := Scalar.remsi v1609 c16_i32_2148
  let c1_i32_2155 : BitVec 32 := 1#32
  let v1611 : BitVec 32 := Scalar.muli v1610 c1_i32_2155
  let v1612 : BitVec 32 := Scalar.addi c0_i32_2156 v1611
  v1612.toNat
def k0_dev77 (d0 : Dev nD) : Nat :=
  let c0_i32_2170 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_2161 : BitVec 32 := 2#32
  let v1621 : BitVec 32 := Scalar.addi v2 c2_i32_2161
  let c16_i32_2162 : BitVec 32 := 16#32
  let v1622 : BitVec 32 := Scalar.remsi v1621 c16_i32_2162
  let c1_i32_2169 : BitVec 32 := 1#32
  let v1623 : BitVec 32 := Scalar.muli v1622 c1_i32_2169
  let v1624 : BitVec 32 := Scalar.addi c0_i32_2170 v1623
  v1624.toNat
def k0_dev78 (d0 : Dev nD) : Nat :=
  let c0_i32_2184 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_2175 : BitVec 32 := 3#32
  let v1633 : BitVec 32 := Scalar.addi v2 c3_i32_2175
  let c16_i32_2176 : BitVec 32 := 16#32
  let v1634 : BitVec 32 := Scalar.remsi v1633 c16_i32_2176
  let c1_i32_2183 : BitVec 32 := 1#32
  let v1635 : BitVec 32 := Scalar.muli v1634 c1_i32_2183
  let v1636 : BitVec 32 := Scalar.addi c0_i32_2184 v1635
  v1636.toNat
def k0_dev79 (d0 : Dev nD) : Nat :=
  let c0_i32_2198 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_2189 : BitVec 32 := 4#32
  let v1645 : BitVec 32 := Scalar.addi v2 c4_i32_2189
  let c16_i32_2190 : BitVec 32 := 16#32
  let v1646 : BitVec 32 := Scalar.remsi v1645 c16_i32_2190
  let c1_i32_2197 : BitVec 32 := 1#32
  let v1647 : BitVec 32 := Scalar.muli v1646 c1_i32_2197
  let v1648 : BitVec 32 := Scalar.addi c0_i32_2198 v1647
  v1648.toNat
def k0_dev80 (d0 : Dev nD) : Nat :=
  let c0_i32_2212 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_2203 : BitVec 32 := 5#32
  let v1657 : BitVec 32 := Scalar.addi v2 c5_i32_2203
  let c16_i32_2204 : BitVec 32 := 16#32
  let v1658 : BitVec 32 := Scalar.remsi v1657 c16_i32_2204
  let c1_i32_2211 : BitVec 32 := 1#32
  let v1659 : BitVec 32 := Scalar.muli v1658 c1_i32_2211
  let v1660 : BitVec 32 := Scalar.addi c0_i32_2212 v1659
  v1660.toNat
def k0_dev81 (d0 : Dev nD) : Nat :=
  let c0_i32_2226 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_2217 : BitVec 32 := 6#32
  let v1669 : BitVec 32 := Scalar.addi v2 c6_i32_2217
  let c16_i32_2218 : BitVec 32 := 16#32
  let v1670 : BitVec 32 := Scalar.remsi v1669 c16_i32_2218
  let c1_i32_2225 : BitVec 32 := 1#32
  let v1671 : BitVec 32 := Scalar.muli v1670 c1_i32_2225
  let v1672 : BitVec 32 := Scalar.addi c0_i32_2226 v1671
  v1672.toNat
def k0_dev82 (d0 : Dev nD) : Nat :=
  let c0_i32_2240 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_2231 : BitVec 32 := 7#32
  let v1681 : BitVec 32 := Scalar.addi v2 c7_i32_2231
  let c16_i32_2232 : BitVec 32 := 16#32
  let v1682 : BitVec 32 := Scalar.remsi v1681 c16_i32_2232
  let c1_i32_2239 : BitVec 32 := 1#32
  let v1683 : BitVec 32 := Scalar.muli v1682 c1_i32_2239
  let v1684 : BitVec 32 := Scalar.addi c0_i32_2240 v1683
  v1684.toNat
def k0_dev83 (d0 : Dev nD) : Nat :=
  let c0_i32_2254 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_2245 : BitVec 32 := 8#32
  let v1693 : BitVec 32 := Scalar.addi v2 c8_i32_2245
  let c16_i32_2246 : BitVec 32 := 16#32
  let v1694 : BitVec 32 := Scalar.remsi v1693 c16_i32_2246
  let c1_i32_2253 : BitVec 32 := 1#32
  let v1695 : BitVec 32 := Scalar.muli v1694 c1_i32_2253
  let v1696 : BitVec 32 := Scalar.addi c0_i32_2254 v1695
  v1696.toNat
def k0_dev84 (d0 : Dev nD) : Nat :=
  let c0_i32_2268 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_2259 : BitVec 32 := 9#32
  let v1705 : BitVec 32 := Scalar.addi v2 c9_i32_2259
  let c16_i32_2260 : BitVec 32 := 16#32
  let v1706 : BitVec 32 := Scalar.remsi v1705 c16_i32_2260
  let c1_i32_2267 : BitVec 32 := 1#32
  let v1707 : BitVec 32 := Scalar.muli v1706 c1_i32_2267
  let v1708 : BitVec 32 := Scalar.addi c0_i32_2268 v1707
  v1708.toNat
def k0_dev85 (d0 : Dev nD) : Nat :=
  let c0_i32_2282 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_2273 : BitVec 32 := 10#32
  let v1717 : BitVec 32 := Scalar.addi v2 c10_i32_2273
  let c16_i32_2274 : BitVec 32 := 16#32
  let v1718 : BitVec 32 := Scalar.remsi v1717 c16_i32_2274
  let c1_i32_2281 : BitVec 32 := 1#32
  let v1719 : BitVec 32 := Scalar.muli v1718 c1_i32_2281
  let v1720 : BitVec 32 := Scalar.addi c0_i32_2282 v1719
  v1720.toNat
def k0_dev86 (d0 : Dev nD) : Nat :=
  let c0_i32_2296 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_2287 : BitVec 32 := 11#32
  let v1729 : BitVec 32 := Scalar.addi v2 c11_i32_2287
  let c16_i32_2288 : BitVec 32 := 16#32
  let v1730 : BitVec 32 := Scalar.remsi v1729 c16_i32_2288
  let c1_i32_2295 : BitVec 32 := 1#32
  let v1731 : BitVec 32 := Scalar.muli v1730 c1_i32_2295
  let v1732 : BitVec 32 := Scalar.addi c0_i32_2296 v1731
  v1732.toNat
def k0_dev87 (d0 : Dev nD) : Nat :=
  let c0_i32_2310 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_2301 : BitVec 32 := 12#32
  let v1741 : BitVec 32 := Scalar.addi v2 c12_i32_2301
  let c16_i32_2302 : BitVec 32 := 16#32
  let v1742 : BitVec 32 := Scalar.remsi v1741 c16_i32_2302
  let c1_i32_2309 : BitVec 32 := 1#32
  let v1743 : BitVec 32 := Scalar.muli v1742 c1_i32_2309
  let v1744 : BitVec 32 := Scalar.addi c0_i32_2310 v1743
  v1744.toNat
def k0_dev88 (d0 : Dev nD) : Nat :=
  let c0_i32_2324 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_2315 : BitVec 32 := 13#32
  let v1753 : BitVec 32 := Scalar.addi v2 c13_i32_2315
  let c16_i32_2316 : BitVec 32 := 16#32
  let v1754 : BitVec 32 := Scalar.remsi v1753 c16_i32_2316
  let c1_i32_2323 : BitVec 32 := 1#32
  let v1755 : BitVec 32 := Scalar.muli v1754 c1_i32_2323
  let v1756 : BitVec 32 := Scalar.addi c0_i32_2324 v1755
  v1756.toNat
def k0_dev89 (d0 : Dev nD) : Nat :=
  let c0_i32_2338 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_2329 : BitVec 32 := 14#32
  let v1765 : BitVec 32 := Scalar.addi v2 c14_i32_2329
  let c16_i32_2330 : BitVec 32 := 16#32
  let v1766 : BitVec 32 := Scalar.remsi v1765 c16_i32_2330
  let c1_i32_2337 : BitVec 32 := 1#32
  let v1767 : BitVec 32 := Scalar.muli v1766 c1_i32_2337
  let v1768 : BitVec 32 := Scalar.addi c0_i32_2338 v1767
  v1768.toNat
def k0_dev90 (d0 : Dev nD) : Nat :=
  let c0_i32_2352 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_2343 : BitVec 32 := 15#32
  let v1777 : BitVec 32 := Scalar.addi v2 c15_i32_2343
  let c16_i32_2344 : BitVec 32 := 16#32
  let v1778 : BitVec 32 := Scalar.remsi v1777 c16_i32_2344
  let c1_i32_2351 : BitVec 32 := 1#32
  let v1779 : BitVec 32 := Scalar.muli v1778 c1_i32_2351
  let v1780 : BitVec 32 := Scalar.addi c0_i32_2352 v1779
  v1780.toNat
def k0_dev91 (d0 : Dev nD) : Nat :=
  let c0_i32_2769 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2758 : BitVec 32 := 1#32
  let v2014 : BitVec 32 := Scalar.subi v2 c1_i32_2758
  let c16_i32_2759 : BitVec 32 := 16#32
  let v2015 : BitVec 32 := Scalar.addi v2014 c16_i32_2759
  let c16_i32_2760 : BitVec 32 := 16#32
  let v2016 : BitVec 32 := Scalar.remsi v2015 c16_i32_2760
  let c1_i32_2768 : BitVec 32 := 1#32
  let v2017 : BitVec 32 := Scalar.muli v2016 c1_i32_2768
  let v2018 : BitVec 32 := Scalar.addi c0_i32_2769 v2017
  v2018.toNat
def k0_dev92 (d0 : Dev nD) : Nat :=
  let c0_i32_2785 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_2774 : BitVec 32 := 2#32
  let v2027 : BitVec 32 := Scalar.subi v2 c2_i32_2774
  let c16_i32_2775 : BitVec 32 := 16#32
  let v2028 : BitVec 32 := Scalar.addi v2027 c16_i32_2775
  let c16_i32_2776 : BitVec 32 := 16#32
  let v2029 : BitVec 32 := Scalar.remsi v2028 c16_i32_2776
  let c1_i32_2784 : BitVec 32 := 1#32
  let v2030 : BitVec 32 := Scalar.muli v2029 c1_i32_2784
  let v2031 : BitVec 32 := Scalar.addi c0_i32_2785 v2030
  v2031.toNat
def k0_dev93 (d0 : Dev nD) : Nat :=
  let c0_i32_2801 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_2790 : BitVec 32 := 3#32
  let v2040 : BitVec 32 := Scalar.subi v2 c3_i32_2790
  let c16_i32_2791 : BitVec 32 := 16#32
  let v2041 : BitVec 32 := Scalar.addi v2040 c16_i32_2791
  let c16_i32_2792 : BitVec 32 := 16#32
  let v2042 : BitVec 32 := Scalar.remsi v2041 c16_i32_2792
  let c1_i32_2800 : BitVec 32 := 1#32
  let v2043 : BitVec 32 := Scalar.muli v2042 c1_i32_2800
  let v2044 : BitVec 32 := Scalar.addi c0_i32_2801 v2043
  v2044.toNat
def k0_dev94 (d0 : Dev nD) : Nat :=
  let c0_i32_2874 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_2863 : BitVec 32 := 4#32
  let v2097 : BitVec 32 := Scalar.subi v2 c4_i32_2863
  let c16_i32_2864 : BitVec 32 := 16#32
  let v2098 : BitVec 32 := Scalar.addi v2097 c16_i32_2864
  let c16_i32_2865 : BitVec 32 := 16#32
  let v2099 : BitVec 32 := Scalar.remsi v2098 c16_i32_2865
  let c1_i32_2873 : BitVec 32 := 1#32
  let v2100 : BitVec 32 := Scalar.muli v2099 c1_i32_2873
  let v2101 : BitVec 32 := Scalar.addi c0_i32_2874 v2100
  v2101.toNat
def k0_dev95 (d0 : Dev nD) : Nat :=
  let c0_i32_2890 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_2879 : BitVec 32 := 5#32
  let v2110 : BitVec 32 := Scalar.subi v2 c5_i32_2879
  let c16_i32_2880 : BitVec 32 := 16#32
  let v2111 : BitVec 32 := Scalar.addi v2110 c16_i32_2880
  let c16_i32_2881 : BitVec 32 := 16#32
  let v2112 : BitVec 32 := Scalar.remsi v2111 c16_i32_2881
  let c1_i32_2889 : BitVec 32 := 1#32
  let v2113 : BitVec 32 := Scalar.muli v2112 c1_i32_2889
  let v2114 : BitVec 32 := Scalar.addi c0_i32_2890 v2113
  v2114.toNat
def k0_dev96 (d0 : Dev nD) : Nat :=
  let c0_i32_2906 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_2895 : BitVec 32 := 6#32
  let v2123 : BitVec 32 := Scalar.subi v2 c6_i32_2895
  let c16_i32_2896 : BitVec 32 := 16#32
  let v2124 : BitVec 32 := Scalar.addi v2123 c16_i32_2896
  let c16_i32_2897 : BitVec 32 := 16#32
  let v2125 : BitVec 32 := Scalar.remsi v2124 c16_i32_2897
  let c1_i32_2905 : BitVec 32 := 1#32
  let v2126 : BitVec 32 := Scalar.muli v2125 c1_i32_2905
  let v2127 : BitVec 32 := Scalar.addi c0_i32_2906 v2126
  v2127.toNat
def k0_dev97 (d0 : Dev nD) : Nat :=
  let c0_i32_2922 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_2911 : BitVec 32 := 7#32
  let v2136 : BitVec 32 := Scalar.subi v2 c7_i32_2911
  let c16_i32_2912 : BitVec 32 := 16#32
  let v2137 : BitVec 32 := Scalar.addi v2136 c16_i32_2912
  let c16_i32_2913 : BitVec 32 := 16#32
  let v2138 : BitVec 32 := Scalar.remsi v2137 c16_i32_2913
  let c1_i32_2921 : BitVec 32 := 1#32
  let v2139 : BitVec 32 := Scalar.muli v2138 c1_i32_2921
  let v2140 : BitVec 32 := Scalar.addi c0_i32_2922 v2139
  v2140.toNat
def k0_dev98 (d0 : Dev nD) : Nat :=
  let c0_i32_2995 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_2984 : BitVec 32 := 8#32
  let v2193 : BitVec 32 := Scalar.subi v2 c8_i32_2984
  let c16_i32_2985 : BitVec 32 := 16#32
  let v2194 : BitVec 32 := Scalar.addi v2193 c16_i32_2985
  let c16_i32_2986 : BitVec 32 := 16#32
  let v2195 : BitVec 32 := Scalar.remsi v2194 c16_i32_2986
  let c1_i32_2994 : BitVec 32 := 1#32
  let v2196 : BitVec 32 := Scalar.muli v2195 c1_i32_2994
  let v2197 : BitVec 32 := Scalar.addi c0_i32_2995 v2196
  v2197.toNat
def k0_dev99 (d0 : Dev nD) : Nat :=
  let c0_i32_3011 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_3000 : BitVec 32 := 9#32
  let v2206 : BitVec 32 := Scalar.subi v2 c9_i32_3000
  let c16_i32_3001 : BitVec 32 := 16#32
  let v2207 : BitVec 32 := Scalar.addi v2206 c16_i32_3001
  let c16_i32_3002 : BitVec 32 := 16#32
  let v2208 : BitVec 32 := Scalar.remsi v2207 c16_i32_3002
  let c1_i32_3010 : BitVec 32 := 1#32
  let v2209 : BitVec 32 := Scalar.muli v2208 c1_i32_3010
  let v2210 : BitVec 32 := Scalar.addi c0_i32_3011 v2209
  v2210.toNat
def k0_dev100 (d0 : Dev nD) : Nat :=
  let c0_i32_3027 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_3016 : BitVec 32 := 10#32
  let v2219 : BitVec 32 := Scalar.subi v2 c10_i32_3016
  let c16_i32_3017 : BitVec 32 := 16#32
  let v2220 : BitVec 32 := Scalar.addi v2219 c16_i32_3017
  let c16_i32_3018 : BitVec 32 := 16#32
  let v2221 : BitVec 32 := Scalar.remsi v2220 c16_i32_3018
  let c1_i32_3026 : BitVec 32 := 1#32
  let v2222 : BitVec 32 := Scalar.muli v2221 c1_i32_3026
  let v2223 : BitVec 32 := Scalar.addi c0_i32_3027 v2222
  v2223.toNat
def k0_dev101 (d0 : Dev nD) : Nat :=
  let c0_i32_3043 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_3032 : BitVec 32 := 11#32
  let v2232 : BitVec 32 := Scalar.subi v2 c11_i32_3032
  let c16_i32_3033 : BitVec 32 := 16#32
  let v2233 : BitVec 32 := Scalar.addi v2232 c16_i32_3033
  let c16_i32_3034 : BitVec 32 := 16#32
  let v2234 : BitVec 32 := Scalar.remsi v2233 c16_i32_3034
  let c1_i32_3042 : BitVec 32 := 1#32
  let v2235 : BitVec 32 := Scalar.muli v2234 c1_i32_3042
  let v2236 : BitVec 32 := Scalar.addi c0_i32_3043 v2235
  v2236.toNat
def k0_dev102 (d0 : Dev nD) : Nat :=
  let c0_i32_3116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_3105 : BitVec 32 := 12#32
  let v2289 : BitVec 32 := Scalar.subi v2 c12_i32_3105
  let c16_i32_3106 : BitVec 32 := 16#32
  let v2290 : BitVec 32 := Scalar.addi v2289 c16_i32_3106
  let c16_i32_3107 : BitVec 32 := 16#32
  let v2291 : BitVec 32 := Scalar.remsi v2290 c16_i32_3107
  let c1_i32_3115 : BitVec 32 := 1#32
  let v2292 : BitVec 32 := Scalar.muli v2291 c1_i32_3115
  let v2293 : BitVec 32 := Scalar.addi c0_i32_3116 v2292
  v2293.toNat
def k0_dev103 (d0 : Dev nD) : Nat :=
  let c0_i32_3132 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_3121 : BitVec 32 := 13#32
  let v2302 : BitVec 32 := Scalar.subi v2 c13_i32_3121
  let c16_i32_3122 : BitVec 32 := 16#32
  let v2303 : BitVec 32 := Scalar.addi v2302 c16_i32_3122
  let c16_i32_3123 : BitVec 32 := 16#32
  let v2304 : BitVec 32 := Scalar.remsi v2303 c16_i32_3123
  let c1_i32_3131 : BitVec 32 := 1#32
  let v2305 : BitVec 32 := Scalar.muli v2304 c1_i32_3131
  let v2306 : BitVec 32 := Scalar.addi c0_i32_3132 v2305
  v2306.toNat
def k0_dev104 (d0 : Dev nD) : Nat :=
  let c0_i32_3148 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_3137 : BitVec 32 := 14#32
  let v2315 : BitVec 32 := Scalar.subi v2 c14_i32_3137
  let c16_i32_3138 : BitVec 32 := 16#32
  let v2316 : BitVec 32 := Scalar.addi v2315 c16_i32_3138
  let c16_i32_3139 : BitVec 32 := 16#32
  let v2317 : BitVec 32 := Scalar.remsi v2316 c16_i32_3139
  let c1_i32_3147 : BitVec 32 := 1#32
  let v2318 : BitVec 32 := Scalar.muli v2317 c1_i32_3147
  let v2319 : BitVec 32 := Scalar.addi c0_i32_3148 v2318
  v2319.toNat
def k0_dev105 (d0 : Dev nD) : Nat :=
  let c0_i32_3164 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_3153 : BitVec 32 := 15#32
  let v2328 : BitVec 32 := Scalar.subi v2 c15_i32_3153
  let c16_i32_3154 : BitVec 32 := 16#32
  let v2329 : BitVec 32 := Scalar.addi v2328 c16_i32_3154
  let c16_i32_3155 : BitVec 32 := 16#32
  let v2330 : BitVec 32 := Scalar.remsi v2329 c16_i32_3155
  let c1_i32_3163 : BitVec 32 := 1#32
  let v2331 : BitVec 32 := Scalar.muli v2330 c1_i32_3163
  let v2332 : BitVec 32 := Scalar.addi c0_i32_3164 v2331
  v2332.toNat
def k0_dev106 (d0 : Dev nD) : Nat :=
  let c0_i32_3381 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3372 : BitVec 32 := 1#32
  let v2469 : BitVec 32 := Scalar.addi v2 c1_i32_3372
  let c16_i32_3373 : BitVec 32 := 16#32
  let v2470 : BitVec 32 := Scalar.remsi v2469 c16_i32_3373
  let c1_i32_3380 : BitVec 32 := 1#32
  let v2471 : BitVec 32 := Scalar.muli v2470 c1_i32_3380
  let v2472 : BitVec 32 := Scalar.addi c0_i32_3381 v2471
  v2472.toNat
def k0_dev107 (d0 : Dev nD) : Nat :=
  let c0_i32_3395 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_3386 : BitVec 32 := 2#32
  let v2481 : BitVec 32 := Scalar.addi v2 c2_i32_3386
  let c16_i32_3387 : BitVec 32 := 16#32
  let v2482 : BitVec 32 := Scalar.remsi v2481 c16_i32_3387
  let c1_i32_3394 : BitVec 32 := 1#32
  let v2483 : BitVec 32 := Scalar.muli v2482 c1_i32_3394
  let v2484 : BitVec 32 := Scalar.addi c0_i32_3395 v2483
  v2484.toNat
def k0_dev108 (d0 : Dev nD) : Nat :=
  let c0_i32_3409 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_3400 : BitVec 32 := 3#32
  let v2493 : BitVec 32 := Scalar.addi v2 c3_i32_3400
  let c16_i32_3401 : BitVec 32 := 16#32
  let v2494 : BitVec 32 := Scalar.remsi v2493 c16_i32_3401
  let c1_i32_3408 : BitVec 32 := 1#32
  let v2495 : BitVec 32 := Scalar.muli v2494 c1_i32_3408
  let v2496 : BitVec 32 := Scalar.addi c0_i32_3409 v2495
  v2496.toNat
def k0_dev109 (d0 : Dev nD) : Nat :=
  let c0_i32_3423 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_3414 : BitVec 32 := 4#32
  let v2505 : BitVec 32 := Scalar.addi v2 c4_i32_3414
  let c16_i32_3415 : BitVec 32 := 16#32
  let v2506 : BitVec 32 := Scalar.remsi v2505 c16_i32_3415
  let c1_i32_3422 : BitVec 32 := 1#32
  let v2507 : BitVec 32 := Scalar.muli v2506 c1_i32_3422
  let v2508 : BitVec 32 := Scalar.addi c0_i32_3423 v2507
  v2508.toNat
def k0_dev110 (d0 : Dev nD) : Nat :=
  let c0_i32_3437 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_3428 : BitVec 32 := 5#32
  let v2517 : BitVec 32 := Scalar.addi v2 c5_i32_3428
  let c16_i32_3429 : BitVec 32 := 16#32
  let v2518 : BitVec 32 := Scalar.remsi v2517 c16_i32_3429
  let c1_i32_3436 : BitVec 32 := 1#32
  let v2519 : BitVec 32 := Scalar.muli v2518 c1_i32_3436
  let v2520 : BitVec 32 := Scalar.addi c0_i32_3437 v2519
  v2520.toNat
def k0_dev111 (d0 : Dev nD) : Nat :=
  let c0_i32_3451 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_3442 : BitVec 32 := 6#32
  let v2529 : BitVec 32 := Scalar.addi v2 c6_i32_3442
  let c16_i32_3443 : BitVec 32 := 16#32
  let v2530 : BitVec 32 := Scalar.remsi v2529 c16_i32_3443
  let c1_i32_3450 : BitVec 32 := 1#32
  let v2531 : BitVec 32 := Scalar.muli v2530 c1_i32_3450
  let v2532 : BitVec 32 := Scalar.addi c0_i32_3451 v2531
  v2532.toNat
def k0_dev112 (d0 : Dev nD) : Nat :=
  let c0_i32_3465 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_3456 : BitVec 32 := 7#32
  let v2541 : BitVec 32 := Scalar.addi v2 c7_i32_3456
  let c16_i32_3457 : BitVec 32 := 16#32
  let v2542 : BitVec 32 := Scalar.remsi v2541 c16_i32_3457
  let c1_i32_3464 : BitVec 32 := 1#32
  let v2543 : BitVec 32 := Scalar.muli v2542 c1_i32_3464
  let v2544 : BitVec 32 := Scalar.addi c0_i32_3465 v2543
  v2544.toNat
def k0_dev113 (d0 : Dev nD) : Nat :=
  let c0_i32_3479 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_3470 : BitVec 32 := 8#32
  let v2553 : BitVec 32 := Scalar.addi v2 c8_i32_3470
  let c16_i32_3471 : BitVec 32 := 16#32
  let v2554 : BitVec 32 := Scalar.remsi v2553 c16_i32_3471
  let c1_i32_3478 : BitVec 32 := 1#32
  let v2555 : BitVec 32 := Scalar.muli v2554 c1_i32_3478
  let v2556 : BitVec 32 := Scalar.addi c0_i32_3479 v2555
  v2556.toNat
def k0_dev114 (d0 : Dev nD) : Nat :=
  let c0_i32_3493 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_3484 : BitVec 32 := 9#32
  let v2565 : BitVec 32 := Scalar.addi v2 c9_i32_3484
  let c16_i32_3485 : BitVec 32 := 16#32
  let v2566 : BitVec 32 := Scalar.remsi v2565 c16_i32_3485
  let c1_i32_3492 : BitVec 32 := 1#32
  let v2567 : BitVec 32 := Scalar.muli v2566 c1_i32_3492
  let v2568 : BitVec 32 := Scalar.addi c0_i32_3493 v2567
  v2568.toNat
def k0_dev115 (d0 : Dev nD) : Nat :=
  let c0_i32_3507 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_3498 : BitVec 32 := 10#32
  let v2577 : BitVec 32 := Scalar.addi v2 c10_i32_3498
  let c16_i32_3499 : BitVec 32 := 16#32
  let v2578 : BitVec 32 := Scalar.remsi v2577 c16_i32_3499
  let c1_i32_3506 : BitVec 32 := 1#32
  let v2579 : BitVec 32 := Scalar.muli v2578 c1_i32_3506
  let v2580 : BitVec 32 := Scalar.addi c0_i32_3507 v2579
  v2580.toNat
def k0_dev116 (d0 : Dev nD) : Nat :=
  let c0_i32_3521 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_3512 : BitVec 32 := 11#32
  let v2589 : BitVec 32 := Scalar.addi v2 c11_i32_3512
  let c16_i32_3513 : BitVec 32 := 16#32
  let v2590 : BitVec 32 := Scalar.remsi v2589 c16_i32_3513
  let c1_i32_3520 : BitVec 32 := 1#32
  let v2591 : BitVec 32 := Scalar.muli v2590 c1_i32_3520
  let v2592 : BitVec 32 := Scalar.addi c0_i32_3521 v2591
  v2592.toNat
def k0_dev117 (d0 : Dev nD) : Nat :=
  let c0_i32_3535 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_3526 : BitVec 32 := 12#32
  let v2601 : BitVec 32 := Scalar.addi v2 c12_i32_3526
  let c16_i32_3527 : BitVec 32 := 16#32
  let v2602 : BitVec 32 := Scalar.remsi v2601 c16_i32_3527
  let c1_i32_3534 : BitVec 32 := 1#32
  let v2603 : BitVec 32 := Scalar.muli v2602 c1_i32_3534
  let v2604 : BitVec 32 := Scalar.addi c0_i32_3535 v2603
  v2604.toNat
def k0_dev118 (d0 : Dev nD) : Nat :=
  let c0_i32_3549 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_3540 : BitVec 32 := 13#32
  let v2613 : BitVec 32 := Scalar.addi v2 c13_i32_3540
  let c16_i32_3541 : BitVec 32 := 16#32
  let v2614 : BitVec 32 := Scalar.remsi v2613 c16_i32_3541
  let c1_i32_3548 : BitVec 32 := 1#32
  let v2615 : BitVec 32 := Scalar.muli v2614 c1_i32_3548
  let v2616 : BitVec 32 := Scalar.addi c0_i32_3549 v2615
  v2616.toNat
def k0_dev119 (d0 : Dev nD) : Nat :=
  let c0_i32_3563 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_3554 : BitVec 32 := 14#32
  let v2625 : BitVec 32 := Scalar.addi v2 c14_i32_3554
  let c16_i32_3555 : BitVec 32 := 16#32
  let v2626 : BitVec 32 := Scalar.remsi v2625 c16_i32_3555
  let c1_i32_3562 : BitVec 32 := 1#32
  let v2627 : BitVec 32 := Scalar.muli v2626 c1_i32_3562
  let v2628 : BitVec 32 := Scalar.addi c0_i32_3563 v2627
  v2628.toNat
def k0_dev120 (d0 : Dev nD) : Nat :=
  let c0_i32_3577 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_3568 : BitVec 32 := 15#32
  let v2637 : BitVec 32 := Scalar.addi v2 c15_i32_3568
  let c16_i32_3569 : BitVec 32 := 16#32
  let v2638 : BitVec 32 := Scalar.remsi v2637 c16_i32_3569
  let c1_i32_3576 : BitVec 32 := 1#32
  let v2639 : BitVec 32 := Scalar.muli v2638 c1_i32_3576
  let v2640 : BitVec 32 := Scalar.addi c0_i32_3577 v2639
  v2640.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_3930 : BitVec 32 := 128#32
  let v2832 : BitVec 32 := Scalar.muli v2 c128_i32_3930
  let v2833 : Index := Scalar.indexCast v2832
  let c0_3931 : Index := 0#32
  ![v2833.toNat, 0]
def k0_off2 (d0 : Dev nD) (c1_i32_3944 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v2843 : BitVec 32 := Scalar.subi v2 c1_i32_3944
  let c16_i32_3945 : BitVec 32 := 16#32
  let v2844 : BitVec 32 := Scalar.addi v2843 c16_i32_3945
  let c16_i32_3946 : BitVec 32 := 16#32
  let v2845 : BitVec 32 := Scalar.remsi v2844 c16_i32_3946
  let c128_i32_3949 : BitVec 32 := 128#32
  let v2849 : BitVec 32 := Scalar.muli v2845 c128_i32_3949
  let v2850 : Index := Scalar.indexCast v2849
  let c0_3950 : Index := 0#32
  ![v2850.toNat, 0]
abbrev stage0_0 : Fin 1 → Memref sig .tc .vmem S128x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S2048x128 : Shape := ⟨2, ![2048, 128]⟩
abbrev S128x4096 : Shape := ⟨2, ![128, 4096]⟩
abbrev S4096x128 : Shape := ⟨2, ![4096, 128]⟩
abbrev S2048x4096 : Shape := ⟨2, ![2048, 4096]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S2048x128, .bf16⟩
  | .hbm, ⟨1, _⟩ => ⟨S128x4096, .bf16⟩
  | .hbm, ⟨2, _⟩ => ⟨S4096x128, .bf16⟩
  | .hbm, ⟨3, _⟩ => ⟨S128x4096, .bf16⟩
  | .hbm, ⟨4, _⟩ => ⟨S4096x128, .bf16⟩
  | .hbm, ⟨5, _⟩ => ⟨S128x4096, .bf16⟩
  | .hbm, ⟨6, _⟩ => ⟨S4096x128, .bf16⟩
  | .hbm, ⟨7, _⟩ => ⟨S2048x4096, .f32⟩
  | .hbm, ⟨8, _⟩ => ⟨S2048x4096, .bf16⟩
  | .hbm, ⟨9, _⟩ => ⟨S_, .bf16⟩
  | .hbm, ⟨10, _⟩ => ⟨S2048x4096, .bf16⟩
  | .hbm, ⟨11, _⟩ => ⟨S2048x4096, .bf16⟩
  | .hbm, ⟨12, _⟩ => ⟨S2048x128, .f32⟩
  | .hbm, ⟨13, _⟩ => ⟨S2048x128, .bf16⟩
  | .hbm, ⟨14, _⟩ => ⟨S2048x4096, .f32⟩
  | .hbm, ⟨15, _⟩ => ⟨S2048x4096, .bf16⟩
  | .hbm, ⟨16, _⟩ => ⟨S_, .bf16⟩
  | .hbm, ⟨17, _⟩ => ⟨S2048x4096, .bf16⟩
  | .hbm, ⟨18, _⟩ => ⟨S2048x4096, .bf16⟩
  | .hbm, ⟨19, _⟩ => ⟨S2048x128, .f32⟩
  | .hbm, ⟨20, _⟩ => ⟨S2048x128, .bf16⟩
  | .hbm, ⟨21, _⟩ => ⟨S2048x4096, .f32⟩
  | .hbm, ⟨22, _⟩ => ⟨S2048x4096, .bf16⟩
  | .hbm, ⟨23, _⟩ => ⟨S_, .bf16⟩
  | .hbm, ⟨24, _⟩ => ⟨S2048x4096, .bf16⟩
  | .hbm, ⟨25, _⟩ => ⟨S2048x4096, .bf16⟩
  | .hbm, ⟨26, _⟩ => ⟨S2048x128, .f32⟩
  | .hbm, ⟨27, _⟩ => ⟨S2048x128, .bf16⟩
  | .hbm, ⟨28, _⟩ => ⟨S2048x128, .f32⟩
  | _, _ => ⟨S2048x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== Proof.Ideal.Prog.lean ====
/- The kernel's body read as a short recursive program: the same operations, in the same order, written once per
   kind of operation and iterated over the slots. `body_eq` says the printed body IS this program. -/
module

public import proofs.«01_k».proof.Proof.Gen.KernelIdeal
public import proofs.«01_k».proof.Proof.Gen.KernelIdeal.Skeleton
public import Idealize.ShloMosaic.Lib.Pipeline.Regions

@[expose] public section

noncomputable section

namespace Cert.KernelIdeal.Hand

open Cert.KernelIdeal Cert.KernelIdeal.Gen
open Idealize.ShloMosaic Idealize.SL.Sem

variable {F : FTy → Type} [FloatOps F]

/-! ## Buffers, slots and semaphores -/

abbrev xM : Memref sig .tc .vmem S2x2048x128 .bf16 := Memref.whole cc0_scratch0
abbrev pM : Memref sig .tc .vmem S16x128x128 .bf16 := Memref.whole cc0_scratch1
abbrev rM : Memref sig .tc .vmem S2x16x128x128 .bf16 := Memref.whole cc0_scratch2

theorem inbX : ∀ (b : Fin 2) (s : Fin 16), ∀ a, (![b.val, 128 * s.val, 0] : Fin 3 → Nat) a + S1x128x128.size a ≤ S2x2048x128.size a := by decide +kernel
theorem inbP : ∀ (s : Fin 16), ∀ a, (![s.val, 0, 0] : Fin 3 → Nat) a + S1x128x128.size a ≤ S16x128x128.size a := by decide +kernel
theorem inbR : ∀ (b : Fin 2) (s : Fin 16), ∀ a, (![b.val, s.val, 0, 0] : Fin 4 → Nat) a + S1x1x128x128.size a ≤ S2x16x128x128.size a := by decide +kernel
theorem inbSem : ∀ (b : Fin 2) (s : Fin 16), ∀ a, (![b.val, s.val] : Fin 2 → Nat) a + S1x1.size a ≤ S2x16.size a := by decide +kernel
theorem inbX4 : ∀ (b : Fin 2) (g : Fin 4), ∀ a, (![b.val, 512 * g.val, 0] : Fin 3 → Nat) a + S1x512x128.size a ≤ S2x2048x128.size a := by decide +kernel
theorem inbP4 : ∀ (g : Fin 4), ∀ a, (![4 * g.val, 0, 0] : Fin 3 → Nat) a + S4x128x128.size a ≤ S16x128x128.size a := by decide +kernel
theorem inbR16 : ∀ (b : Fin 2), ∀ a, (![b.val, 0, 0, 0] : Fin 4 → Nat) a + S1x16x128x128.size a ≤ S2x16x128x128.size a := by decide +kernel

/-- The rectangle of slot `s` of buffer `b` of `xfull`, of `p_stage`, of `rs_buf`; of a group's four slots; of all sixteen. -/
abbrev xR (b : Fin 2) (s : Fin 16) : Rect S2x2048x128 := Rect.unit (s := S2x2048x128) ![b.val, 128 * s.val, 0] S1x128x128.size (inbX b s)
abbrev pR (s : Fin 16) : Rect S16x128x128 := Rect.unit (s := S16x128x128) ![s.val, 0, 0] S1x128x128.size (inbP s)
abbrev rR (b : Fin 2) (s : Fin 16) : Rect S2x16x128x128 := Rect.unit (s := S2x16x128x128) ![b.val, s.val, 0, 0] S1x1x128x128.size (inbR b s)
abbrev xR4 (b : Fin 2) (g : Fin 4) : Rect S2x2048x128 := Rect.unit (s := S2x2048x128) ![b.val, 512 * g.val, 0] S1x512x128.size (inbX4 b g)
abbrev pR4 (g : Fin 4) : Rect S16x128x128 := Rect.unit (s := S16x128x128) ![4 * g.val, 0, 0] S4x128x128.size (inbP4 g)
abbrev rR16 (b : Fin 2) : Rect S2x16x128x128 := Rect.unit (s := S2x16x128x128) ![b.val, 0, 0, 0] S1x16x128x128.size (inbR16 b)

theorem wordsX : ∀ (b : Fin 2) (s : Fin 16), (xR b s).WholeWords (EltTy.packing .bf16) := by decide +kernel
theorem wordsP : ∀ (s : Fin 16), (pR s).WholeWords (EltTy.packing .bf16) := by decide +kernel
theorem wordsR : ∀ (b : Fin 2) (s : Fin 16), (rR b s).WholeWords (EltTy.packing .bf16) := by decide +kernel
theorem packedX : ∀ (b : Fin 2) (s : Fin 16), (xR b s).PackedRows (EltTy.packing .bf16) := by decide +kernel
theorem packedP4 : ∀ (g : Fin 4), (pR4 g).PackedRows (EltTy.packing .bf16) := by decide +kernel
theorem packedR : ∀ (b : Fin 2) (s : Fin 16), (rR b s).PackedRows (EltTy.packing .bf16) := by decide +kernel

/-- Slot `s` of buffer `b` of `xfull`; of `p_stage`; of `rs_buf`: each a 128 by 128 block. -/
abbrev xS (b : Fin 2) (s : Fin 16) : Memref sig .tc .vmem S128x128 .bf16 :=
  (xM.slice (xR b s) (fun _ => rfl)).squeeze S128x128 squeezes_S1x128x128_S128x128
abbrev pS (s : Fin 16) : Memref sig .tc .vmem S128x128 .bf16 :=
  (pM.slice (pR s) (fun _ => rfl)).squeeze S128x128 squeezes_S1x128x128_S128x128
abbrev rS (b : Fin 2) (s : Fin 16) : Memref sig .tc .vmem S128x128 .bf16 :=
  (rM.slice (rR b s) (fun _ => rfl)).squeeze S128x128 squeezes_S1x1x128x128_S128x128

/-- Entry `[b, s]` of a semaphore array. -/
abbrev semAt (A : DmaSems sig S2x16) (b : Fin 2) (s : Fin 16) : DmaSem sig :=
  ((A.slice (Rect.unit (s := S2x16) ![b.val, s.val] S1x1.size (inbSem b s))).squeeze S_ squeezes_S1x1_S_).sem

abbrev agSnd (b : Fin 2) (s : Fin 16) : DmaSem sig := semAt cc0_scratch3 b s
abbrev agRcv (b : Fin 2) (s : Fin 16) : DmaSem sig := semAt cc0_scratch4 b s
abbrev rsSnd (b : Fin 2) (s : Fin 16) : DmaSem sig := semAt cc0_scratch5 b s
abbrev rsRcv (b : Fin 2) (s : Fin 16) : DmaSem sig := semAt cc0_scratch6 b s
abbrev barS : Sem sig := (SemArray.scalar (sig.barrier 0 rfl) : Sems sig S_).sem

theorem exactX (b : Fin 2) (s : Fin 16) : (xS b s).view.WordExact := ((Memref.isWhole_whole _).wordExact_slice rfl _ (wordsX b s)).reshape _ _
theorem exactP (s : Fin 16) : (pS s).view.WordExact := ((Memref.isWhole_whole _).wordExact_slice rfl _ (wordsP s)).reshape _ _
theorem exactR (b : Fin 2) (s : Fin 16) : (rS b s).view.WordExact := ((Memref.isWhole_whole _).wordExact_slice rfl _ (wordsR b s)).reshape _ _

/-! ## The operations -/

/-- The kernel's programs, without a result. -/
abbrev P (F : FTy → Type) [FloatOps F] : Type 1 := Prog (TpuEff nD τ sig (Elt F) Λ₀ .tc) PUnit

/-- The slots other than the own one, in the kernel's order; each group's. -/
abbrev peers : List (Fin 16) := [1, 2, 3, 4, 5, 6, 7, 8, 9, 10, 11, 12, 13, 14, 15]
abbrev grp : Fin 4 → List (Fin 16) := ![[1, 2, 3], [4, 5, 6, 7], [8, 9, 10, 11], [12, 13, 14, 15]]

/-- One operation per slot of a list, in order, then the rest. -/
abbrev each (l : List (Fin 16)) (f : Fin 16 → P F → P F) (k : P F) : P F := l.foldr f k

/-- The entry signal to the device `n`. -/
abbrev sigTo (n : Dev nD) (k : P F) : P F := semSignalWord n barS 1#32 >>= fun _ => k
/-- The entry wait. -/
abbrev barWait (k : P F) : P F := semWaitWord barS 15#32 >>= fun _ => k

/-- A block of activations sent to slot `s` of device `n`. -/
abbrev agSend (b : Fin 2) (n : Dev nD) (s : Fin 16) (k : P F) : P F :=
  .op (.enqueueDma (xS b 0) (.remote (Dev.tc n) (xS b s) (.dma (agSnd b s))) (.dma (agRcv b s)) (exactX b 0) (exactX b s)
    ⟨⟨rfl, Or.inl rfl⟩, trivial⟩) fun _ => k
/-- A partial product sent to slot `s` of device `n`. -/
abbrev rsSend (b : Fin 2) (n : Dev nD) (s : Fin 16) (k : P F) : P F :=
  .op (.enqueueDma (pS s) (.remote (Dev.tc n) (rS b s) (.dma (rsSnd b s))) (.dma (rsRcv b s)) (exactP s) (exactR b s)
    ⟨⟨rfl, Or.inl rfl⟩, trivial⟩) fun _ => k
abbrev agWait (b : Fin 2) (s : Fin 16) (k : P F) : P F := .op (.waitDma2 (agRcv b s) (xS b 0) (xS b s) (exactX b 0) (exactX b s)) fun _ => k
abbrev rsWait (b : Fin 2) (s : Fin 16) (k : P F) : P F := .op (.waitDma2 (rsRcv b s) (pS 0) (rS b s) (exactP 0) (exactR b s)) fun _ => k
abbrev agSent (b : Fin 2) (s : Fin 16) (k : P F) : P F := .op (.waitDma2 (agSnd b s) (xS b s) (xS b 0) (exactX b s) (exactX b 0)) fun _ => k
abbrev rsSent (b : Fin 2) (s : Fin 16) (k : P F) : P F := .op (.waitDma2 (rsSnd b s) (rS b s) (pS s) (exactR b s) (exactP s)) fun _ => k

/-- A block stored into slot 0 of buffer `b` of `xfull`. -/
abbrev putX (b : Fin 2) (v : FVec F S1x128x128 .bf16) (k : P F) : P F :=
  .op (.load xM (xR b 0).toLoadRect (View.loadsAt_vmem h_S1x128x128)) fun _ =>
  .op (.store xM (xR b 0) v Finset.univ
    (View.stores_vmem h_S1x128x128 ((Memref.isWhole_whole _).storeExact_slice rfl _ (packedX b 0)) (fun _ => rfl)) (.inl rfl)) fun _ => k

/-- The four blocks of a group loaded, multiplied and stored into `p_stage`. -/
abbrev products (b : Fin 2) (w1 : FVec F S128x256 .bf16) (w2 : FVec F S256x128 .bf16) (g : Fin 4) (k : P F) : P F :=
  .op (.load xM (xR4 b g).toLoadRect (View.loadsAt_vmem h_S1x512x128)) fun x =>
  .op (.load pM (pR4 g).toLoadRect (View.loadsAt_vmem h_S4x128x128)) fun _ =>
  .op (.store pM (pR4 g) (k0_pay7 w1 w2 x) Finset.univ
    (View.stores_vmem h_S4x128x128 ((Memref.isWhole_whole _).storeExact_slice rfl _ (packedP4 g)) (fun _ => rfl)) (.inl rfl)) fun _ => k

/-- The device's own product copied to slot 0 of `rs_buf`. -/
abbrev ownProduct (b : Fin 2) (k : P F) : P F :=
  .op (.load pM (pR 0).toLoadRect (View.loadsAt_vmem h_S1x128x128)) fun v =>
  .op (.load rM (rR b 0).toLoadRect (View.loadsAt_vmem h_S1x1x128x128)) fun _ =>
  .op (.store rM (rR b 0) (k0_pay6 v) Finset.univ
    (View.stores_vmem h_S1x1x128x128 ((Memref.isWhole_whole _).storeExact_slice rfl _ (packedR b 0)) (fun _ => rfl)) (.inl rfl)) fun _ => k

/-- The sixteen products of the own rows summed into slot 0 of the other buffer of `xfull`. -/
abbrev reduce (b b' : Fin 2) (k : P F) : P F :=
  .op (.load rM (rR16 b).toLoadRect (View.loadsAt_vmem h_S1x16x128x128)) fun v => putX b' (k0_pay11 v) k

/-- One layer: the weights, the four groups, the reduction, the next all-gather's sends, the waits for the sends. -/
abbrev layer (b b' : Fin 2) (w1M : Memref sig .tc .vmem S128x256 .bf16) (w2M : Memref sig .tc .vmem S256x128 .bf16)
    (rsDev agDev : Fin 16 → Dev nD) (k : P F) : P F :=
  .op (.load w1M (Rect.unit (s := S128x256) ![0, 0] S128x256.size inb_S128x256_S128x256_0_0).toLoadRect (View.loadsAt_vmem h_S128x256)) fun w1 =>
  .op (.load w2M (Rect.unit (s := S256x128) ![0, 0] S256x128.size inb_S256x128_S256x128_0_0).toLoadRect (View.loadsAt_vmem h_S256x128)) fun w2 =>
  each (grp 0) (agWait b) <| products b (k0_pay2 w1) (k0_pay3 w2) 0 <| ownProduct b <| each (grp 0) (fun s => rsSend b (rsDev s) s) <|
  each (grp 1) (agWait b) <| products b (k0_pay2 w1) (k0_pay3 w2) 1 <| each (grp 1) (fun s => rsSend b (rsDev s) s) <|
  each (grp 2) (agWait b) <| products b (k0_pay2 w1) (k0_pay3 w2) 2 <| each (grp 2) (fun s => rsSend b (rsDev s) s) <|
  each (grp 3) (agWait b) <| products b (k0_pay2 w1) (k0_pay3 w2) 3 <| each (grp 3) (fun s => rsSend b (rsDev s) s) <|
  each peers (rsWait b) <| reduce b b' <| each peers (fun s => agSend b' (agDev s) s) <|
  each peers (agSent b) <| each peers (rsSent b) k

/-- Slot `s` of the last all-gather written to its rows of the result, which start at `off`. -/
abbrev emit (oM : Memref sig .tc .vmem S2048x128 .f32) (off : Fin 2 → Nat) (h : ∀ a, off a + S128x128.size a ≤ S2048x128.size a) (s : Fin 16) (k : P F) : P F :=
  .op (.load xM (xR 1 s).toLoadRect (View.loadsAt_vmem h_S1x128x128)) fun v =>
  .op (.load oM (Rect.unit (s := S2048x128) off S128x128.size h).toLoadRect (View.loadsAt_vmem h_S128x128)) fun _ =>
  .op (.store oM (Rect.unit (s := S2048x128) off S128x128.size h) (k0_pay30 v) Finset.univ (View.stores_vmem_bits_univ h_S128x128 rfl) (.inl rfl)) fun _ => k

/-- The kernel's addressed devices in program order: the entry's signals; then all-gathers and reduce-scatters in turn. -/
def devList (c : Dev nD) : List Nat :=
  [k0_dev1 c, k0_dev2 c, k0_dev3 c, k0_dev4 c, k0_dev5 c, k0_dev6 c, k0_dev7 c, k0_dev8 c, k0_dev9 c, k0_dev10 c,
   k0_dev11 c, k0_dev12 c, k0_dev13 c, k0_dev14 c, k0_dev15 c, k0_dev16 c, k0_dev17 c, k0_dev18 c, k0_dev19 c, k0_dev20 c,
   k0_dev21 c, k0_dev22 c, k0_dev23 c, k0_dev24 c, k0_dev25 c, k0_dev26 c, k0_dev27 c, k0_dev28 c, k0_dev29 c, k0_dev30 c,
   k0_dev31 c, k0_dev32 c, k0_dev33 c, k0_dev34 c, k0_dev35 c, k0_dev36 c, k0_dev37 c, k0_dev38 c, k0_dev39 c, k0_dev40 c,
   k0_dev41 c, k0_dev42 c, k0_dev43 c, k0_dev44 c, k0_dev45 c, k0_dev46 c, k0_dev47 c, k0_dev48 c, k0_dev49 c, k0_dev50 c,
   k0_dev51 c, k0_dev52 c, k0_dev53 c, k0_dev54 c, k0_dev55 c, k0_dev56 c, k0_dev57 c, k0_dev58 c, k0_dev59 c, k0_dev60 c,
   k0_dev61 c, k0_dev62 c, k0_dev63 c, k0_dev64 c, k0_dev65 c, k0_dev66 c, k0_dev67 c, k0_dev68 c, k0_dev69 c, k0_dev70 c,
   k0_dev71 c, k0_dev72 c, k0_dev73 c, k0_dev74 c, k0_dev75 c, k0_dev76 c, k0_dev77 c, k0_dev78 c, k0_dev79 c, k0_dev80 c,
   k0_dev81 c, k0_dev82 c, k0_dev83 c, k0_dev84 c, k0_dev85 c, k0_dev86 c, k0_dev87 c, k0_dev88 c, k0_dev89 c, k0_dev90 c,
   k0_dev91 c, k0_dev92 c, k0_dev93 c, k0_dev94 c, k0_dev95 c, k0_dev96 c, k0_dev97 c, k0_dev98 c, k0_dev99 c, k0_dev100 c,
   k0_dev101 c, k0_dev102 c, k0_dev103 c, k0_dev104 c, k0_dev105 c, k0_dev106 c, k0_dev107 c, k0_dev108 c, k0_dev109 c, k0_dev110 c,
   k0_dev111 c, k0_dev112 c, k0_dev113 c, k0_dev114 c, k0_dev115 c, k0_dev116 c, k0_dev117 c, k0_dev118 c, k0_dev119 c, k0_dev120 c]

theorem devList_lt : ∀ (c : Dev nD) (i : Nat), (devList c).getD i 0 < nD := by
  intro c i
  rcases Nat.lt_or_ge i 120 with h | h
  · exact (by decide +kernel : ∀ (c : Dev nD) (i : Fin 120), (devList c).getD i.val 0 < nD) c ⟨i, h⟩
  · have hl : (devList c).length ≤ i := h
    rw [List.getD, List.getElem?_eq_none hl]; decide

/-- The device that phase `p` (0: entry; 1, 3, 5, 7: all-gathers; 2, 4, 6: reduce-scatters) addresses at slot `s`. -/
def devAt (c : Dev nD) (p : Fin 8) (s : Fin 16) : Dev nD := ⟨(devList c).getD (15 * p.val + s.val - 1) 0, devList_lt c _⟩

/-- The body after the device id is read, over the addressed devices and the offsets in the result. -/
abbrev bodyOf (dev : Fin 8 → Fin 16 → Dev nD) (off : Fin 16 → Fin 2 → Nat) (hoff : ∀ s, ∀ a, off s a + S128x128.size a ≤ S2048x128.size a) : P F :=
  each peers (fun s => sigTo (dev 0 s)) <| barWait <|
  .op (.load (Memref.whole cc0_stg0_0) (Rect.unit (s := S128x128) ![0, 0] S128x128.size inb_S128x128_S128x128_0_0).toLoadRect (View.loadsAt_vmem h_S128x128)) fun x =>
  putX 0 (k0_pay1 x) <| each peers (fun s => agSend 0 (dev 1 s) s) <|
  layer 0 1 (Memref.whole cc0_stg1_0) (Memref.whole cc0_stg2_0) (dev 2) (dev 3) <|
  layer 1 0 (Memref.whole cc0_stg3_0) (Memref.whole cc0_stg4_0) (dev 4) (dev 5) <|
  layer 0 1 (Memref.whole cc0_stg5_0) (Memref.whole cc0_stg6_0) (dev 6) (dev 7) <|
  emit (Memref.whole cc0_stg7_0) (off 0) (hoff 0) 0 <|
  each peers (fun s k => agWait 1 s <| emit (Memref.whole cc0_stg7_0) (off s) (hoff s) s k) <|
  each peers (agSent 1) <| .ret ⟨⟩

/-- The row offsets in the result, as printed. -/
def offAt (c : Dev nD) (s : Fin 16) : Fin 2 → Nat := if s.val = 0 then k0_off1 c else k0_off2 c (BitVec.ofNat 32 s.val)
theorem offAt_inb : ∀ (c : Dev nD) (s : Fin 16), ∀ a, offAt c s a + S128x128.size a ≤ S2048x128.size a := by decide +kernel

/-- The printed body is the recursive program. -/
theorem body_eq :
    cc0_body (F := F) (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _) (Memref.whole cc0_stg5_0) (Memref.isWhole_whole _)
      (Memref.whole cc0_stg6_0) (Memref.isWhole_whole _) (Memref.whole cc0_stg7_0) (Memref.isWhole_whole _)
      (Memref.whole cc0_scratch0) (Memref.isWhole_whole _) (Memref.whole cc0_scratch1) (Memref.isWhole_whole _)
      (Memref.whole cc0_scratch2) (Memref.isWhole_whole _) cc0_scratch3 cc0_scratch4 cc0_scratch5 cc0_scratch6
      = .op .deviceId fun c => bodyOf (devAt c) (offAt c) (offAt_inb c) := by
  chain_rfl

/-- The device `s` places after `c` on the ring, and the one `s` places before. -/
abbrev up (c : Dev nD) (s : Fin 16) : Dev nD := c + s
abbrev dn (c : Dev nD) (s : Fin 16) : Dev nD := c - s

/-- The entry's signals and the all-gathers address the devices after; the reduce-scatters those before. -/
theorem devAt_eq : ∀ (c : Dev nD) (p : Fin 8) (s : Fin 16), s ≠ 0 → devAt c p s = if p = 2 ∨ p = 4 ∨ p = 6 then dn c s else up c s := by
  decide +kernel

/-- Slot `s` goes to the rows of the device `s` places before. -/
theorem offAt_eq : ∀ (c : Dev nD) (s : Fin 16), offAt c s = ![128 * (dn c s).val, 0] := by decide +kernel

end Cert.KernelIdeal.Hand

end
-- ==== Proof.Ideal.Slots.lean ====
/- What the three scratch buffers hold, as functions of the whole buffer, and the elements of their slots: which
   indices a slot covers, that slots are apart, and what a copy, a load or a store of a slot does to these contents. -/
module

public import proofs.«01_k».proof.Proof.Ideal.Prog
public import Idealize.ShloMosaic.Lib.ValueIdx
public import Idealize.ShloMosaic.Lib.ValueLayout
public import Idealize.ShloMosaic.Lib.ViewIndex

@[expose] public section

noncomputable section

namespace Cert.KernelIdeal.Hand

open Cert.KernelIdeal Cert.KernelIdeal.Gen
open Idealize.ShloMosaic Idealize.ShloMosaic.ValueIdx

variable {F : FTy → Type} [FloatOps F]

/-- Contents of `xfull`, `p_stage`, `rs_buf` and of the result's buffer; one activation block. -/
abbrev CX (F : FTy → Type) : Type := S2x2048x128.Idx → Elt F .bf16
abbrev CP (F : FTy → Type) : Type := S16x128x128.Idx → Elt F .bf16
abbrev CR (F : FTy → Type) : Type := S2x16x128x128.Idx → Elt F .bf16
abbrev CO (F : FTy → Type) : Type := S2048x128.Idx → Elt F .f32
abbrev Blk (F : FTy → Type) : Type := FVec F S1x128x128 .bf16

/-- The buffer that layer `l` works in. -/
abbrev par (l : ℕ) : Fin 2 := ⟨l % 2, Nat.mod_lt _ (by decide)⟩

/-- The row slot of a row below 2048, and the row's place in it. -/
abbrev slotOf (r : Fin 2048) : Fin 16 := ⟨r.val / 128, by omega⟩
abbrev rowOf (r : Fin 2048) : Fin 128 := ⟨r.val % 128, Nat.mod_lt _ (by decide)⟩

/-- `xfull` on device `c` when every block has arrived: slot `s` holds the block of the device `s` places before. -/
def XF (A : Dev nD → Blk F) (c : Dev nD) : CX F := fun i => A (dn c (slotOf (i 1))) (ix3 0 (rowOf (i 1)) (i 2))

/-- `p_stage` from the weights and `xfull`: slot `s` is the product of the block in slot `s`, computed with its group. -/
def PF (w1 : FVec F S128x256 .bf16) (w2 : FVec F S256x128 .bf16) (b : Fin 2) (X : CX F) : CP F := fun i =>
  k0_pay7 w1 w2 (xM.view.readAt (Elt F) (xR4 b ⟨(i 0).val / 4, by have := (i 0).isLt; change _ < 16 at this; omega⟩).toLoadRect X)
    (ix3 ⟨(i 0).val % 4, Nat.mod_lt _ (by decide)⟩ (i 1) (i 2))

/-- `rs_buf` on device `c` when every product has arrived: slot `s` holds slot `s` of the device `s` places after. -/
def RF (Q : Dev nD → CP F) (c : Dev nD) : CR F := fun i => Q (up c (i 1)) (ix3 (i 1) (i 2) (i 3))

/-- What the kernel reads: each device's block of `x`, and its blocks of the two weights of every layer. -/
structure Inputs (F : FTy → Type) [FloatOps F] where
  x : Dev nD → FVec F S128x128 .bf16
  w1 : ℕ → Dev nD → FVec F S128x256 .bf16
  w2 : ℕ → Dev nD → FVec F S256x128 .bf16

/-- The activation blocks of every device before layer `l`. -/
def act (I : Inputs F) : ℕ → Dev nD → Blk F
  | 0, c => k0_pay1 (I.x c)
  | l + 1, c => k0_pay11 (rM.view.readAt (Elt F) (rR16 (par l)).toLoadRect
      (RF (fun d => PF (k0_pay2 (I.w1 l d)) (k0_pay3 (I.w2 l d)) (par l) (XF (act I l) d)) c))

/-- The products of every device in layer `l`, as `p_stage` holds them. -/
def prod (I : Inputs F) (l : ℕ) (d : Dev nD) : CP F := PF (k0_pay2 (I.w1 l d)) (k0_pay3 (I.w2 l d)) (par l) (XF (act I l) d)

theorem act_succ (I : Inputs F) (l : ℕ) (c : Dev nD) :
    k0_pay11 (rM.view.readAt (Elt F) (rR16 (par l)).toLoadRect (RF (prod I l) c)) = act I (l + 1) c := rfl

/-- The result's buffer: the rows of device `d` are its last block. -/
def OF (A : Dev nD → Blk F) : CO F := fun i => k0_pay30 (A (slotOf (i 0))) (ix2 (rowOf (i 0)) (i 1))

/-! ## Where a slot's elements lie -/

theorem emb_xS (b : Fin 2) (s : Fin 16) (i j : Fin 128) : (xS b s).view.emb (ix2 i j) = ix3 b ⟨128 * s.val + i.val, by omega⟩ j := by
  show (xR b s).emb (Shape.reshapeEquiv _ (ix2 i j)) = _
  rw [reshapeEquiv_ix2_1ab]
  refine Shape.idx3_ext ?_ ?_ ?_ <;> simp [Rect.emb_apply]

theorem emb_pS (s : Fin 16) (i j : Fin 128) : (pS s).view.emb (ix2 i j) = ix3 s i j := by
  show (pR s).emb (Shape.reshapeEquiv _ (ix2 i j)) = _
  rw [reshapeEquiv_ix2_1ab]
  refine Shape.idx3_ext ?_ ?_ ?_ <;> simp [Rect.emb_apply]

theorem emb_rS (b : Fin 2) (s : Fin 16) (i j : Fin 128) : (rS b s).view.emb (ix2 i j) = ix4 b s i j := by
  show (rR b s).emb (Shape.reshapeEquiv _ (ix2 i j)) = _
  rw [reshapeEquiv_ix2_11ab]
  funext a
  match a with
  | ⟨0, _⟩ => exact Fin.ext (by simp [Rect.emb_apply])
  | ⟨1, _⟩ => exact Fin.ext (by simp [Rect.emb_apply])
  | ⟨2, _⟩ => exact Fin.ext (by simp [Rect.emb_apply])
  | ⟨3, _⟩ => exact Fin.ext (by simp [Rect.emb_apply])

/-- A slot has the elements of its rectangle. -/
theorem set_xS (b : Fin 2) (s : Fin 16) : (xS b s).view.set = (xM.access (xR b s) : View sig .tc _ _ _).set :=
  View.set_reshape (xM.view.slice (xR b s)) _
theorem set_pS (s : Fin 16) : (pS s).view.set = (pM.access (pR s) : View sig .tc _ _ _).set :=
  View.set_reshape (pM.view.slice (pR s)) _
theorem set_rS (b : Fin 2) (s : Fin 16) : (rS b s).view.set = (rM.access (rR b s) : View sig .tc _ _ _).set :=
  View.set_reshape (rM.view.slice (rR b s)) _

theorem mem_xS {b : Fin 2} {s : Fin 16} {i : S2x2048x128.Idx} : i ∈ (xS b s).view.set ↔ (i 0).val = b.val ∧ (i 1).val / 128 = s.val := by
  rw [set_xS, show (xM.access (xR b s) : View sig .tc _ _ _).set = (xR b s).set from View.set_slice_whole _ _, Rect.mem_set_unit]
  have h2 : (i 2).val < 128 := (i 2).isLt
  constructor
  · intro h
    have h0 := h 0; have h1 := h 1
    simp at h0 h1
    omega
  · rintro ⟨h0, h1⟩ a
    match a with
    | ⟨0, _⟩ => simp; omega
    | ⟨1, _⟩ => simp; omega
    | ⟨2, _⟩ => simp; omega

theorem mem_pS {s : Fin 16} {i : S16x128x128.Idx} : i ∈ (pS s).view.set ↔ (i 0).val = s.val := by
  rw [set_pS, show (pM.access (pR s) : View sig .tc _ _ _).set = (pR s).set from View.set_slice_whole _ _, Rect.mem_set_unit]
  have h1 : (i 1).val < 128 := (i 1).isLt
  have h2 : (i 2).val < 128 := (i 2).isLt
  constructor
  · intro h
    have h0 := h 0
    simp at h0
    omega
  · intro h0 a
    match a with
    | ⟨0, _⟩ => simp; omega
    | ⟨1, _⟩ => simp; omega
    | ⟨2, _⟩ => simp; omega

theorem mem_rS {b : Fin 2} {s : Fin 16} {i : S2x16x128x128.Idx} : i ∈ (rS b s).view.set ↔ (i 0).val = b.val ∧ (i 1).val = s.val := by
  rw [set_rS, show (rM.access (rR b s) : View sig .tc _ _ _).set = (rR b s).set from View.set_slice_whole _ _, Rect.mem_set_unit]
  have h2 : (i 2).val < 128 := (i 2).isLt
  have h3 : (i 3).val < 128 := (i 3).isLt
  constructor
  · intro h
    have h0 := h 0; have h1 := h 1
    simp at h0 h1
    omega
  · rintro ⟨h0, h1⟩ a
    match a with
    | ⟨0, _⟩ => simp; omega
    | ⟨1, _⟩ => simp; omega
    | ⟨2, _⟩ => simp; omega
    | ⟨3, _⟩ => simp; omega

theorem disj_xS (b b' : Fin 2) (s s' : Fin 16) (h : (b, s) ≠ (b', s')) : Disjoint (xS b s).view.set (xS b' s').view.set :=
  Finset.disjoint_left.mpr fun _ h1 h2 => h (Prod.ext (Fin.ext ((mem_xS.mp h1).1.symm.trans (mem_xS.mp h2).1))
    (Fin.ext ((mem_xS.mp h1).2.symm.trans (mem_xS.mp h2).2)))
theorem disj_pS (s s' : Fin 16) (h : s ≠ s') : Disjoint (pS s).view.set (pS s').view.set :=
  Finset.disjoint_left.mpr fun _ h1 h2 => h (Fin.ext ((mem_pS.mp h1).symm.trans (mem_pS.mp h2)))
theorem disj_rS (b b' : Fin 2) (s s' : Fin 16) (h : (b, s) ≠ (b', s')) : Disjoint (rS b s).view.set (rS b' s').view.set :=
  Finset.disjoint_left.mpr fun _ h1 h2 => h (Prod.ext (Fin.ext ((mem_rS.mp h1).1.symm.trans (mem_rS.mp h2).1))
    (Fin.ext ((mem_rS.mp h1).2.symm.trans (mem_rS.mp h2).2)))

/-- The slots cover their buffers. -/
theorem cover_x : ((Finset.univ : Finset (Fin 2 × Fin 16)).biUnion fun k => (xS k.1 k.2).view.set) = (Finset.univ : Finset S2x2048x128.Idx) := by
  ext i
  simp only [Finset.mem_biUnion, Finset.mem_univ, true_and, iff_true]
  exact ⟨(i 0, slotOf (i 1)), mem_xS.mpr ⟨rfl, rfl⟩⟩
theorem cover_p : ((Finset.univ : Finset (Fin 16)).biUnion fun k => (pS k).view.set) = (Finset.univ : Finset S16x128x128.Idx) := by
  ext i
  simp only [Finset.mem_biUnion, Finset.mem_univ, true_and, iff_true]
  exact ⟨i 0, mem_pS.mpr rfl⟩
theorem cover_r : ((Finset.univ : Finset (Fin 2 × Fin 16)).biUnion fun k => (rS k.1 k.2).view.set) = (Finset.univ : Finset S2x16x128x128.Idx) := by
  ext i
  simp only [Finset.mem_biUnion, Finset.mem_univ, true_and, iff_true]
  exact ⟨(i 0, i 1), mem_rS.mpr ⟨rfl, rfl⟩⟩

/-- The slots of group `g`. -/
def slot4 (g q : Fin 4) : Fin 16 := ⟨4 * g.val + q.val, by omega⟩
theorem slot4_val (g q : Fin 4) : (slot4 g q).val = 4 * g.val + q.val := rfl
theorem exists_slot4 (g : Fin 4) (n : ℕ) (h : 4 * g.val ≤ n) (h' : n < 4 * g.val + 4) : ∃ q : Fin 4, (slot4 g q).val = n :=
  ⟨⟨n - 4 * g.val, by omega⟩, by rw [slot4_val]; show 4 * g.val + (n - 4 * g.val) = n; omega⟩

/-- A group's rectangle has its four slots' elements; the whole half of `rs_buf` its sixteen slots'. -/
theorem set_xR4 (b : Fin 2) (g : Fin 4) : xM.view.setOn (xR4 b g).toLoadRect.set = (Finset.univ : Finset (Fin 4)).biUnion fun q => (xS b (slot4 g q)).view.set := by
  ext i
  rw [show xM.view.setOn (xR4 b g).toLoadRect.set = (xR4 b g).set from Finset.map_refl, Rect.mem_set_unit]
  simp only [Finset.mem_biUnion, Finset.mem_univ, true_and]
  have h2 : (i 2).val < 128 := (i 2).isLt
  constructor
  · intro h
    have h0 := h 0; have h1 := h 1
    simp at h0 h1
    obtain ⟨q, hq⟩ := exists_slot4 g ((i 1).val / 128) (by omega) (by omega)
    exact ⟨q, mem_xS.mpr ⟨by omega, hq.symm⟩⟩
  · rintro ⟨q, hq⟩ a
    obtain ⟨h0, h1⟩ := mem_xS.mp hq
    rw [slot4_val] at h1
    match a with
    | ⟨0, _⟩ => simp; omega
    | ⟨1, _⟩ => simp; omega
    | ⟨2, _⟩ => simp; omega
theorem set_pR4 (g : Fin 4) : (pM.access (pR4 g) : View sig .tc _ _ _).set = (Finset.univ : Finset (Fin 4)).biUnion fun q => (pS (slot4 g q)).view.set := by
  ext i
  rw [show (pM.access (pR4 g) : View sig .tc _ _ _).set = (pR4 g).set from View.set_slice_whole _ _, Rect.mem_set_unit]
  simp only [Finset.mem_biUnion, Finset.mem_univ, true_and]
  have h1 : (i 1).val < 128 := (i 1).isLt
  have h2 : (i 2).val < 128 := (i 2).isLt
  constructor
  · intro h
    have h0 := h 0
    simp at h0
    obtain ⟨q, hq⟩ := exists_slot4 g (i 0).val (by omega) (by omega)
    exact ⟨q, mem_pS.mpr hq.symm⟩
  · rintro ⟨q, hq⟩ a
    have h0 := mem_pS.mp hq
    rw [slot4_val] at h0
    match a with
    | ⟨0, _⟩ => simp; omega
    | ⟨1, _⟩ => simp; omega
    | ⟨2, _⟩ => simp; omega
theorem set_rR16 (b : Fin 2) : rM.view.setOn (rR16 b).toLoadRect.set = (Finset.univ : Finset (Fin 16)).biUnion fun s => (rS b s).view.set := by
  ext i
  rw [show rM.view.setOn (rR16 b).toLoadRect.set = (rR16 b).set from Finset.map_refl, Rect.mem_set_unit]
  simp only [Finset.mem_biUnion, Finset.mem_univ, true_and]
  have h1 : (i 1).val < 16 := (i 1).isLt
  have h2 : (i 2).val < 128 := (i 2).isLt
  have h3 : (i 3).val < 128 := (i 3).isLt
  constructor
  · intro h
    have h0 := h 0
    simp at h0
    exact ⟨i 1, mem_rS.mpr ⟨by omega, rfl⟩⟩
  · rintro ⟨q, hq⟩ a
    obtain ⟨h0, -⟩ := mem_rS.mp hq
    match a with
    | ⟨0, _⟩ => simp; omega
    | ⟨1, _⟩ => simp; omega
    | ⟨2, _⟩ => simp; omega
    | ⟨3, _⟩ => simp; omega

/-! ## Copies, loads and stores -/

omit [FloatOps F] in
/-- A full write through a view of what other contents read there leaves those contents, at the view's elements. -/
theorem write_eq_on {sp : Space} {s : Shape} {e : EltTy} (v : View sig .tc sp s e) (f g : v.ty.Contents (Elt F)) (w : s.Idx → Elt F e)
    (h : ∀ x, w x = v.read (Elt F) g x) : ∀ i ∈ v.set, v.write (Elt F) f w Finset.univ i = g i := by
  intro i hi
  obtain ⟨x, -, rfl⟩ := Finset.mem_map.mp hi
  exact View.eq_of_read_eq (by rw [View.read_write_univ]; exact h x)

omit [FloatOps F] in
/-- An activation block copied to slot `s` of the device `s` places after is what belongs there. -/
theorem land_x (A : Dev nD → Blk F) (c : Dev nD) (b : Fin 2) (s : Fin 16) (fd : CX F) :
    ∀ i ∈ (xS b s).view.set, (xS b s).view.write (Elt F) fd ((xS b 0).view.read (Elt F) (XF A c)) Finset.univ i = XF A (up c s) i := by
  refine write_eq_on (xS b s).view fd (XF A (up c s)) _ fun x => ?_
  obtain ⟨i, j, rfl⟩ : ∃ i j : Fin 128, x = ix2 i j := ⟨x 0, x 1, eq_ix2 x⟩
  show XF A c ((xS b 0).view.emb (ix2 i j)) = XF A (up c s) ((xS b s).view.emb (ix2 i j))
  rw [emb_xS b 0, emb_xS b s]
  unfold XF
  show A (dn c (slotOf ⟨128 * (0 : Fin 16).val + i.val, _⟩)) (ix3 0 (rowOf ⟨128 * (0 : Fin 16).val + i.val, _⟩) j)
    = A (dn (up c s) (slotOf ⟨128 * s.val + i.val, _⟩)) (ix3 0 (rowOf ⟨128 * s.val + i.val, _⟩) j)
  have e1 : ∀ h, slotOf ⟨128 * (0 : Fin 16).val + i.val, h⟩ = 0 := fun _ => Fin.ext (by simp)
  have e2 : ∀ h, slotOf ⟨128 * s.val + i.val, h⟩ = s := fun _ => Fin.ext (by simp; omega)
  have e3 : ∀ h h', rowOf ⟨128 * (0 : Fin 16).val + i.val, h⟩ = rowOf ⟨128 * s.val + i.val, h'⟩ := fun _ _ => Fin.ext (by simp)
  rw [e1, e2, e3]; unfold dn up; rw [sub_zero, add_sub_cancel_right]

omit [FloatOps F] in
/-- A product copied to slot `s` of the device `s` places before is what belongs there. -/
theorem land_r (Q : Dev nD → CP F) (c : Dev nD) (b : Fin 2) (s : Fin 16) (fd : CR F) :
    ∀ i ∈ (rS b s).view.set, (rS b s).view.write (Elt F) fd ((pS s).view.read (Elt F) (Q c)) Finset.univ i = RF Q (dn c s) i := by
  refine write_eq_on (rS b s).view fd (RF Q (dn c s)) _ fun x => ?_
  obtain ⟨i, j, rfl⟩ : ∃ i j : Fin 128, x = ix2 i j := ⟨x 0, x 1, eq_ix2 x⟩
  show Q c ((pS s).view.emb (ix2 i j)) = RF Q (dn c s) ((rS b s).view.emb (ix2 i j))
  rw [emb_pS, emb_rS]
  show _ = Q (up (dn c s) s) _
  unfold up dn; rw [sub_add_cancel]

omit [FloatOps F] in
/-- Slot `s` read by a load. -/
theorem read_x (A : Dev nD → Blk F) (c : Dev nD) (b : Fin 2) (s : Fin 16) :
    xM.view.readAt (Elt F) (xR b s).toLoadRect (XF A c) = A (dn c s) := by
  funext x
  have hx : (x 1).val < 128 := (x 1).isLt
  have hz : (x 0).val < 1 := (x 0).isLt
  show A (dn c (slotOf ⟨128 * s.val + 1 * (x 1).val, _⟩)) (ix3 0 (rowOf ⟨128 * s.val + 1 * (x 1).val, _⟩) ⟨0 + 1 * (x 2).val, _⟩) = _
  have e2 : slotOf ⟨128 * s.val + 1 * (x 1).val, by omega⟩ = s := Fin.ext (by simp; omega)
  rw [e2]
  congr 1
  refine Shape.idx3_ext ?_ ?_ ?_
  · show 0 = (x 0).val; omega
  · show (128 * s.val + 1 * (x 1).val) % 128 = (x 1).val; omega
  · show 0 + 1 * (x 2).val = (x 2).val; omega

omit [FloatOps F] in
/-- The own block stored into slot 0. -/
theorem store_x (A : Dev nD → Blk F) (c : Dev nD) (b : Fin 2) (f : CX F) :
    ∀ i ∈ (xS b 0).view.set, (xM.access (xR b 0) : View sig .tc _ _ _).write (Elt F) f (A c) Finset.univ i = XF A c i := by
  intro i hi
  refine write_eq_on (xM.access (xR b 0) : View sig .tc _ _ _) f (XF A c) (A c) (fun x => ?_) i ?_
  · have := congrFun (read_x A c b 0) x
    rw [show dn c 0 = c from sub_zero c] at this
    exact this.symm
  · rw [← set_xS]; exact hi

/-- A group's products stored into its four slots of `p_stage`. -/
theorem store_p (w1 : FVec F S128x256 .bf16) (w2 : FVec F S256x128 .bf16) (b : Fin 2) (X : CX F) (g : Fin 4) (f : CP F) :
    ∀ i ∈ (pM.access (pR4 g) : View sig .tc _ _ _).set,
      (pM.access (pR4 g) : View sig .tc _ _ _).write (Elt F) f (k0_pay7 w1 w2 (xM.view.readAt (Elt F) (xR4 b g).toLoadRect X)) Finset.univ i = PF w1 w2 b X i := by
  refine write_eq_on (pM.access (pR4 g) : View sig .tc _ _ _) f (PF w1 w2 b X) _ fun x => ?_
  have hx : (x 0).val < 4 := (x 0).isLt
  show _ = k0_pay7 w1 w2 (xM.view.readAt (Elt F) (xR4 b ⟨(4 * g.val + 1 * (x 0).val) / 4, _⟩).toLoadRect X)
    (ix3 ⟨(4 * g.val + 1 * (x 0).val) % 4, _⟩ ⟨0 + 1 * (x 1).val, _⟩ ⟨0 + 1 * (x 2).val, _⟩)
  have e : (⟨(4 * g.val + 1 * (x 0).val) / 4, by omega⟩ : Fin 4) = g := Fin.ext (by simp; omega)
  rw [e]
  congr 1
  refine Shape.idx3_ext ?_ ?_ ?_
  · show (x 0).val = (4 * g.val + 1 * (x 0).val) % 4; omega
  · show (x 1).val = 0 + 1 * (x 1).val; omega
  · show (x 2).val = 0 + 1 * (x 2).val; omega

/-- The own product stored into slot 0 of `rs_buf`. -/
theorem store_r (Q : Dev nD → CP F) (c : Dev nD) (b : Fin 2) (f : CR F) :
    ∀ i ∈ (rS b 0).view.set,
      (rM.access (rR b 0) : View sig .tc _ _ _).write (Elt F) f (k0_pay6 (pM.view.readAt (Elt F) (pR 0).toLoadRect (Q c))) Finset.univ i = RF Q c i := by
  intro i hi
  refine write_eq_on (rM.access (rR b 0) : View sig .tc _ _ _) f (RF Q c) _ (fun x => ?_) i (by rw [← set_rS]; exact hi)
  obtain ⟨x0, x1, x2, x3, rfl⟩ : ∃ (x0 x1 : Fin 1) (x2 x3 : Fin 128), x = ix4 x0 x1 x2 x3 := ⟨x 0, x 1, x 2, x 3, eq_ix4 x⟩
  obtain rfl : x0 = 0 := Subsingleton.elim _ _
  obtain rfl : x1 = 0 := Subsingleton.elim _ _
  have hp : ∀ v : FVec F S1x128x128 .bf16, k0_pay6 v (ix4 0 0 x2 x3) = v (ix3 0 x2 x3) := fun v => by
    unfold k0_pay6
    refine (shapeCast_apply (shapeCast S128x128 v shapeCasts_S1x128x128_S128x128) shapeCasts_S128x128_S1x1x128x128 (ix4 0 0 x2 x3) (ix2 x2 x3) (by
      rw [Shape.rowMajor_val_two, Shape.rowMajor_val_four]
      show x2.val * 128 + x3.val = (((0 * 1 + 0) * 128 + x2.val) * 128 + x3.val)
      omega)).trans ?_
    exact shapeCast_1ab_ab_apply v shapeCasts_S1x128x128_S128x128 x2 x3
  rw [hp]
  have e1 : (pR 0).toLoadRect.idx (ix3 0 x2 x3) = ix3 0 x2 x3 := by
    refine Shape.idx3_ext ?_ ?_ ?_
    · rfl
    · show 0 + 1 * x2.val = x2.val; omega
    · show 0 + 1 * x3.val = x3.val; omega
  have e2 : (rR b 0).emb (ix4 0 0 x2 x3) = ix4 b 0 x2 x3 := by
    funext a
    match a with
    | ⟨0, _⟩ => exact Fin.ext (show b.val + 1 * 0 = b.val by omega)
    | ⟨1, _⟩ => exact Fin.ext (show 0 + 1 * 0 = 0 by omega)
    | ⟨2, _⟩ => exact Fin.ext (show 0 + 1 * x2.val = x2.val by omega)
    | ⟨3, _⟩ => exact Fin.ext (show 0 + 1 * x3.val = x3.val by omega)
  show Q c ((pR 0).toLoadRect.idx (ix3 0 x2 x3)) = RF Q c ((rR b 0).emb (ix4 0 0 x2 x3))
  rw [e1, e2]
  show _ = Q (up c 0) _
  rw [show up c 0 = c from add_zero c]

/-- The rows of the result that device `d`'s block takes. -/
abbrev oR (off : Fin 2 → Nat) (h : ∀ a, off a + S128x128.size a ≤ S2048x128.size a) : Rect S2048x128 := Rect.unit (s := S2048x128) off S128x128.size h
abbrev oM : Memref sig .tc .vmem S2048x128 .f32 := Memref.whole cc0_stg7_0

theorem mem_oR {d : Dev nD} {off : Fin 2 → Nat} (ho : off = ![128 * d.val, 0]) (h : ∀ a, off a + S128x128.size a ≤ S2048x128.size a) {i : S2048x128.Idx} :
    i ∈ (oM.access (oR off h) : View sig .tc _ _ _).set ↔ slotOf (i 0) = d := by
  subst ho
  rw [show (oM.access (oR ![128 * d.val, 0] h) : View sig .tc _ _ _).set = (oR ![128 * d.val, 0] h).set from View.set_slice_whole _ _, Rect.mem_set_unit]
  have h1 : (i 1).val < 128 := (i 1).isLt
  constructor
  · intro h
    have h0 := h 0
    simp at h0
    exact Fin.ext (by show (i 0).val / 128 = d.val; omega)
  · intro h0 a
    have h0 : (i 0).val / 128 = d.val := congrArg Fin.val h0
    match a with
    | ⟨0, _⟩ => simp; omega
    | ⟨1, _⟩ => simp; omega

/-- A block written to its rows of the result. -/
theorem store_o (A : Dev nD → Blk F) {d : Dev nD} {off : Fin 2 → Nat} (ho : off = ![128 * d.val, 0]) (h : ∀ a, off a + S128x128.size a ≤ S2048x128.size a) (f : CO F) :
    ∀ i, (oM.access (oR off h) : View sig .tc _ _ _).write (Elt F) f (k0_pay30 (A d)) Finset.univ i = if slotOf (i 0) = d then OF A i else f i := by
  intro i
  by_cases hi : i ∈ (oM.access (oR off h) : View sig .tc _ _ _).set
  · rw [if_pos ((mem_oR ho h).mp hi)]
    refine write_eq_on (oM.access (oR off h) : View sig .tc _ _ _) f (OF A) _ (fun x => ?_) i hi
    subst ho
    obtain ⟨x0, x1, rfl⟩ : ∃ (x0 x1 : Fin 128), x = ix2 x0 x1 := ⟨x 0, x 1, eq_ix2 x⟩
    show _ = k0_pay30 (A (slotOf ⟨128 * d.val + 1 * x0.val, _⟩)) (ix2 (rowOf ⟨128 * d.val + 1 * x0.val, _⟩) ⟨0 + 1 * x1.val, _⟩)
    have e1 : ∀ h, slotOf ⟨128 * d.val + 1 * x0.val, h⟩ = d := fun _ => Fin.ext (by show (128 * d.val + 1 * x0.val) / 128 = d.val; omega)
    have e2 : ∀ h, rowOf ⟨128 * d.val + 1 * x0.val, h⟩ = x0 := fun _ => Fin.ext (by show (128 * d.val + 1 * x0.val) % 128 = x0.val; omega)
    rw [e1, e2]
    refine congrArg (fun j : Fin 128 => k0_pay30 (A d) (ix2 x0 j)) (Fin.ext ?_)
    show x1.val = 0 + 1 * x1.val; omega
    all_goals (have hd : d.val < 16 := d.isLt; omega)
  · rw [if_neg fun e => hi ((mem_oR ho h).mpr e)]
    exact View.write_of_not_mem _ _ _ hi

end Cert.KernelIdeal.Hand

end
-- ==== Proof.Ideal.Sched.lean ====
/- The kernel's protocol as a schedule of rounds: for every semaphore of every device, what each landing hands over.

   * barrier semaphore of device `c`, round 0: device `c + s` pays one unit for each `s ≠ 0`, and hands over its slot `s` of
     buffer 0 of `xfull` — the place that `c`'s first all-gather writes.
   * `ag_recv[b, s]` of `c`, round `r`: layer `l = 2 r + b`'s block of device `c - s` lands in slot `s` of buffer `b`; with it comes
     slot `s` of that sender's `rs_buf`, the place that `c` will send the product back to.
   * `rs_recv[b, s]` of `c`, round `r`: the product that device `c + s` computed for `c` lands in slot `s` of `rs_buf`; with it comes
     slot `s` of the other buffer of that sender's `xfull`, the place that `c`'s next all-gather writes.
   * `ag_send[b, s]`, `rs_send[b, s]`: the part of the source that the copy held. -/
module

public import proofs.«01_k».proof.Proof.Ideal.Slots
public import Idealize.ShloMosaic.Lib.Pipeline.Launch
public import Idealize.ShloMosaic.Lib.Pipeline.Kit
public import Idealize.ShloMosaic.Lib.ShareLeaves
public import Idealize.ShloMosaic.Lib.Tactic

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf)

variable {F : FTy → Type} [FloatOps F]

/-! ## The resource algebra -/

abbrev UB : Type := URounds (GSem nD τ sig) (Fin 16)
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

/-! ## The cells -/

/-- The four arrays of DMA semaphores: all-gather sends and receives, reduce-scatter sends and receives. -/
abbrev arr : Fin 4 → DmaSems sig S2x16 := ![cc0_scratch3, cc0_scratch4, cc0_scratch5, cc0_scratch6]

/-- A device's cells: its barrier semaphore, and the entries of the four arrays. -/
abbrev Key : Type := Option (Fin 4 × Fin 2 × Fin 16)

abbrev keySem : Key → SemLoc sig
  | none => .reg barS
  | some q => .dma (semAt (arr q.1) q.2.1 q.2.2)

/-- Which of the cells a semaphore is. -/
def keyOf : SemLoc sig → Option Key
  | .reg r => if r = barS then some none else none
  | .dma d => if 8 ≤ d.val then some (some (Fin.ofNat 4 ((d.val - 8) / 32), Fin.ofNat 2 ((d.val - 8) / 16), Fin.ofNat 16 (d.val - 8))) else none

theorem keyOf_keySem : ∀ k, keyOf (keySem k) = some k := by decide +kernel

abbrev kcell (ck : Dev nD × Key) : GSem nD τ sig := ((ck.1 : Thread nD τ), keySem ck.2)
/-- Device `c`'s barrier cell; its entry `[b, s]` of the array `k`. -/
abbrev bar (c : Dev nD) : GSem nD τ sig := kcell (c, none)
abbrev cell (c : Dev nD) (k : Fin 4) (b : Fin 2) (s : Fin 16) : GSem nD τ sig := kcell (c, some (k, b, s))

theorem kcell_inj : Function.Injective (kcell : Dev nD × Key → GSem nD τ sig) := by
  rintro ⟨c, k⟩ ⟨c', k'⟩ h
  have h1 : c = c' := congrArg (fun g : GSem nD τ sig => g.1.1) h
  have h2 : keySem k = keySem k' := congrArg (fun g : GSem nD τ sig => g.2) h
  have h3 : some k = some k' := by rw [← keyOf_keySem k, h2, keyOf_keySem k']
  rw [h1, Option.some.inj h3]

/-- What one copy of a block credits. -/
abbrev N : ℕ := (xS 0 0).view.dmaCredit
theorem N_pos : 0 < N := View.dmaCredit_pos _ (by decide)

/-! ## Pieces of the buffers -/

/-- Slot `s` of buffer `b` of device `c`'s `xfull`, of its `p_stage`, of its `rs_buf`: a share of it with given contents. -/
def Xp (c : Dev nD) (b : Fin 2) (s : Fin 16) (q : PosShare TreeShare) (f : CX F) : sProp 𝕄 :=
  (xS b s).view.loc (c : Thread nD τ) ↦[(xS b s).view.set]{q} f
def Pp (c : Dev nD) (s : Fin 16) (f : CP F) : sProp 𝕄 := (pS s).view.loc (c : Thread nD τ) ↦[(pS s).view.set]{fullShare} f
def Rp (c : Dev nD) (b : Fin 2) (s : Fin 16) (f : CR F) : sProp 𝕄 := (rS b s).view.loc (c : Thread nD τ) ↦[(rS b s).view.set]{fullShare} f
/-- The same with any contents. -/
def Xany (c : Dev nD) (b : Fin 2) (s : Fin 16) : sProp 𝕄 := iprop(∃ f, Xp c b s fullShare f)
def Pany (c : Dev nD) (s : Fin 16) : sProp 𝕄 := iprop(∃ f, Pp c s f)
def Rany (c : Dev nD) (b : Fin 2) (s : Fin 16) : sProp 𝕄 := iprop(∃ f, Rp c b s f)

instance Xp_storable (c : Dev nD) (b s q f) : BI.Storable (upEmb : UEmb _ 𝕄) (Xp (F := F) c b s q f) := by unfold Xp; infer_instance
instance Pp_storable (c : Dev nD) (s f) : BI.Storable (upEmb : UEmb _ 𝕄) (Pp (F := F) c s f) := by unfold Pp; infer_instance
instance Rp_storable (c : Dev nD) (b s f) : BI.Storable (upEmb : UEmb _ 𝕄) (Rp (F := F) c b s f) := by unfold Rp; infer_instance
instance Xany_storable (c : Dev nD) (b s) : BI.Storable (upEmb : UEmb _ 𝕄) (Xany (F := F) c b s) := by unfold Xany; infer_instance
instance Rany_storable (c : Dev nD) (b s) : BI.Storable (upEmb : UEmb _ 𝕄) (Rany (F := F) c b s) := by unfold Rany; infer_instance

/-! ## The schedule -/

/-- What the sender's slot of `rs_buf` is handed over with, in layers 0, 1, 2; the last all-gather hands nothing over. -/
def agGrant (l : ℕ) (d : Dev nD) (s : Fin 16) : sProp 𝕄 :=
  if l ≤ 2 then iprop(Rany d (par l) s ∗ reached ER (cell d 3 (par l) s) (l / 2)) else iprop(emp)
/-- The slot that layer `l`'s all-gather into device `d` writes. -/
def xGrant (l : ℕ) (d : Dev nD) (s : Fin 16) : sProp 𝕄 := iprop(Xany d (par l) s ∗ reached ER (cell d 1 (par l) s) (l / 2))

/-- What the landing of layer `l` on entry `s` of an array hands device `c`. -/
def pay (I : Inputs F) (l : ℕ) (c : Dev nD) (s : Fin 16) : Fin 4 → sProp 𝕄
  | 0 => Xp c (par l) 0 (leaf 4 fullShare s) (XF (act I l) c)
  | 1 => iprop(Xp c (par l) s fullShare (XF (act I l) c) ∗ agGrant l (dn c s) s)
  | 2 => Pp c s (prod I l c)
  | 3 => iprop(Rp c (par l) s (RF (prod I l) c) ∗ xGrant (l + 1) (up c s) s)

instance agGrant_storable (l d s) : BI.Storable (upEmb : UEmb _ 𝕄) (agGrant (F := F) l d s) := by
  unfold agGrant; split <;> infer_instance
instance xGrant_storable (l d s) : BI.Storable (upEmb : UEmb _ 𝕄) (xGrant (F := F) l d s) := by unfold xGrant; infer_instance
instance pay_storable (I : Inputs F) (l c s k) : BI.Storable (upEmb : UEmb _ 𝕄) (pay I l c s k) := by
  unfold pay; split <;> infer_instance

/-- The layer of round `r` of buffer `b`. -/
abbrev lay (b : Fin 2) (r : ℕ) : ℕ := 2 * r + b.val
/-- The layers that an array serves: the all-gathers 0 to 3, the reduce-scatters 0 to 2. -/
abbrev Live (k : Fin 4) (l : ℕ) : Prop := if k.val < 2 then l ≤ 3 else l ≤ 2

/-- The duties of a cell in a round: the barrier's fifteen; one for each layer on an entry `s ≠ 0`. -/
def due : Option Key → ℕ → Finset (Fin 16)
  | none, _ => ∅
  | some none, r => if r = 0 then Finset.univ.erase 0 else ∅
  | some (some (k, b, s)), r => if s ≠ 0 ∧ Live k (lay b r) then {0} else ∅

/-- What the duty `d` of a cell of device `c` hands over in round `r`. -/
def payOf (I : Inputs F) (c : Dev nD) : Option Key → ℕ → Fin 16 → sProp 𝕄
  | none, _, _ => iprop(emp)
  | some none, _, d => xGrant 0 (up c d) d
  | some (some (k, b, s)), r, _ => pay I (lay b r) c s k

def amt : Option Key → ℕ
  | some none => 1
  | _ => N

def Rd (I : Inputs F) : Rounds.Schedule (GSem nD τ sig) (Fin 16) 𝕄 where
  duties g r := if g.1.2 = .tc then due (keyOf g.2) r else ∅
  unitless _ := False
  amount g _ _ := amt (keyOf g.2)
  payload g r d := payOf I g.1.1 (keyOf g.2) r d
  amount_pos g _ _ _ := by
    unfold amt; split
    · exact Nat.one_pos
    · exact N_pos

instance Rd_storable (I : Inputs F) (g : GSem nD τ sig) (r : ℕ) (d : Fin 16) : BI.Storable (upEmb : UEmb _ 𝕄) ((Rd I).payload g r d) := by
  show BI.Storable upEmb (payOf I g.1.1 (keyOf g.2) r d)
  unfold payOf; split <;> infer_instance

section
variable (I : Inputs F) (c : Dev nD)

theorem duties_key (k : Key) (r : ℕ) : (Rd I).duties (kcell (c, k)) r = due (some k) r := by
  show (if ((c : Thread nD τ)).2 = .tc then due (keyOf (keySem k)) r else ∅) = _
  rw [keyOf_keySem, if_pos rfl]
theorem amount_key (k : Key) (r : ℕ) (d : Fin 16) : (Rd I).amount (kcell (c, k)) r d = amt (some k) := by
  show amt (keyOf (keySem k)) = _
  rw [keyOf_keySem]
theorem payload_key (k : Key) (r : ℕ) (d : Fin 16) : (Rd I).payload (kcell (c, k)) r d = payOf I c (some k) r d := by
  show payOf I c (keyOf (keySem k)) r d = _
  rw [keyOf_keySem]

/-- A layer is a buffer and a round. -/
theorem lay_par (l : ℕ) : lay (par l) (l / 2) = l := by
  show 2 * (l / 2) + l % 2 = l
  omega

theorem duties_bar : (Rd I).duties (bar c) 0 = Finset.univ.erase 0 := by rw [duties_key]; rfl
theorem amount_bar (d : Fin 16) : (Rd I).amount (bar c) 0 d = 1 := amount_key I c none 0 d
theorem payload_bar (d : Fin 16) : (Rd I).payload (bar c) 0 d = xGrant 0 (up c d) d := payload_key I c none 0 d
theorem expect_bar : (Rd I).expect (bar c) 0 = 15 := by
  unfold Schedule.expect Schedule.amountOf
  rw [duties_bar, Finset.sum_congr rfl fun d _ => amount_bar I c d, Finset.sum_const, smul_eq_mul, mul_one]
  rfl

theorem duties_cell (k : Fin 4) (l : ℕ) (s : Fin 16) (hs : s ≠ 0) (hl : Live k l) : (Rd I).duties (cell c k (par l) s) (l / 2) = {0} := by
  rw [duties_key]
  show (if s ≠ 0 ∧ Live k (lay (par l) (l / 2)) then {0} else ∅) = ({0} : Finset (Fin 16))
  rw [lay_par, if_pos ⟨hs, hl⟩]
theorem duties_none (k : Fin 4) (b : Fin 2) (s : Fin 16) (r : ℕ) (h : s = 0 ∨ ¬ Live k (lay b r)) : (Rd I).duties (cell c k b s) r = ∅ := by
  rw [duties_key]
  exact if_neg fun h' => h.elim h'.1 fun h => h h'.2
theorem amount_cell (k : Fin 4) (b : Fin 2) (s : Fin 16) (r : ℕ) (d : Fin 16) : (Rd I).amount (cell c k b s) r d = N := amount_key I c _ r d
theorem payload_cell (k : Fin 4) (l : ℕ) (s : Fin 16) (d : Fin 16) : (Rd I).payload (cell c k (par l) s) (l / 2) d = pay I l c s k := by
  rw [payload_key]
  show pay I (lay (par l) (l / 2)) c s k = _
  rw [lay_par]
theorem expect_cell (k : Fin 4) (l : ℕ) (s : Fin 16) (hs : s ≠ 0) (hl : Live k l) : (Rd I).expect (cell c k (par l) s) (l / 2) = N := by
  unfold Schedule.expect Schedule.amountOf; rw [duties_cell I c k l s hs hl, Finset.sum_singleton, amount_cell]

theorem rest_cell (k : Fin 4) (l : ℕ) (s : Fin 16) (hs : s ≠ 0) (hl : Live k l) :
    bigSep ((Rd I).duties (cell c k (par l) s) (l / 2) \ ∅) (fun d => (Rd I).payload (cell c k (par l) s) (l / 2) d) = pay I l c s k := by
  rw [Finset.sdiff_empty, duties_cell I c k l s hs hl, bigSep_singleton, payload_cell]

end

/-! ## What a device owes; the levels -/

abbrev Tal : Type := CellTallies nD τ sig ℕ

/-- The order in which the waits take place: the barrier, then by turns the all-gathers and the reduce-scatters. -/
abbrev agIx (l : ℕ) : ℕ := 2 + 2 * l
abbrev rsIx (l : ℕ) : ℕ := 3 + 2 * l

def brDue (c : Dev nD) (s : Fin 16) : Tal := tallyAt (bar (up c s)) 1 1
def agDue (l : ℕ) (c : Dev nD) (s : Fin 16) : Tal := tallyAt (cell (up c s) 1 (par l) s) (agIx l) N
def rsDue (l : ℕ) (c : Dev nD) (s : Fin 16) : Tal := tallyAt (cell (dn c s) 3 (par l) s) (rsIx l) N

/-- The dues of a list of slots besides `K`, the first slot's outermost. -/
def dues (f : Fin 16 → Tal) (l : List (Fin 16)) (K : Tal) : Tal := l.foldr (fun s O => O + f s) K

/-- Everything that device `c` owes at launch, in the order in which it pays. -/
def owed0 (c : Dev nD) : Tal :=
  dues (brDue c) peers <| dues (agDue 0 c) peers <|
  dues (rsDue 0 c) peers <| dues (agDue 1 c) peers <|
  dues (rsDue 1 c) peers <| dues (agDue 2 c) peers <|
  dues (rsDue 2 c) peers <| dues (agDue 3 c) peers 0

/-- Only TensorCores' cells are owed anything, at indices above `n`. -/
def Above (n : ℕ) (O : Tal) : Prop := ∀ (g : GSem nD τ sig) (ι : ℕ), 0 < O g ι → g.1.2 = .tc ∧ n < ι ∧ ι ≤ 8

theorem above_zero (n : ℕ) : Above n 0 := fun g ι h => absurd h (Nat.lt_irrefl 0)
theorem Above.mono {n n' : ℕ} {O : Tal} (h : Above n O) (hn : n' ≤ n) : Above n' O :=
  fun g ι hp => ⟨(h g ι hp).1, lt_of_le_of_lt hn (h g ι hp).2.1, (h g ι hp).2.2⟩
theorem Above.add {n : ℕ} {O O' : Tal} (h : Above n O) (h' : Above n O') : Above n (O + O') := fun g ι hp => by
  rw [Pi.add_apply, Finsupp.add_apply] at hp
  rcases Nat.eq_zero_or_pos (O g ι) with h0 | h0
  · exact h' g ι (by omega)
  · exact h g ι h0
theorem above_at {n : ℕ} (c : Dev nD) (k : Key) (ι v : ℕ) (h : n < ι) (h' : ι ≤ 8) : Above n (tallyAt (kcell (c, k)) ι v) := fun g ι' hp => by
  rw [tallyAt_apply] at hp
  by_cases hg : g = kcell (c, k) ∧ ι' = ι
  · rw [hg.1, hg.2]; exact ⟨rfl, h, h'⟩
  · rw [if_neg hg] at hp; exact absurd hp (Nat.lt_irrefl 0)
theorem above_dues {n : ℕ} {f : Fin 16 → Tal} {K : Tal} (hf : ∀ s, Above n (f s)) (hK : Above n K) : ∀ l, Above n (dues f l K)
  | [] => hK
  | s :: l => (above_dues hf hK l).add (hf s)

theorem above_br (c : Dev nD) (s : Fin 16) : Above 0 (brDue c s) := above_at _ _ _ _ (by omega) (by omega)
theorem above_ag (l : ℕ) (hl : l ≤ 3) (c : Dev nD) (s : Fin 16) : Above (1 + 2 * l) (agDue l c s) := above_at _ _ _ _ (by unfold agIx; omega) (by unfold agIx; omega)
theorem above_rs (l : ℕ) (hl : l ≤ 2) (c : Dev nD) (s : Fin 16) : Above (2 + 2 * l) (rsDue l c s) := above_at _ _ _ _ (by unfold rsIx; omega) (by unfold rsIx; omega)

def L (g : GSem nD τ sig) : Finset ℕ := if g.1.2 = .tc then Finset.range 9 else ∅
def lv (_ : GSem nD τ sig) (ι : ℕ) : ℕ := ι

theorem L_of_ne (g : GSem nD τ sig) (h : g.1.2 ≠ .tc) : L g = ∅ := if_neg h
theorem mem_L (c : Dev nD) (sm : SemLoc sig) (ι : ℕ) (h : ι ≤ 8) : ι ∈ L ((c : Thread nD τ), sm) := by
  unfold L; rw [if_pos rfl]; exact Finset.mem_range.mpr (by omega)

/-- A wait at an index below all that is owed may block. -/
theorem mayWait (c : Dev nD) (sm : SemLoc sig) (ι : ℕ) (hι : ι ≤ 8) (O : Tal) (hO : Above ι O) :
    (levAts L lv : sProp 𝕄) ⊢ MayWait (c : Thread nD τ) sm ι O :=
  MayOwe.of_cut (L := L) (lev := lv) ι (fun p hp => by rw [Finset.mem_singleton.mp hp]; exact mem_L c sm ι hι)
    (fun g ι' hg => by unfold L; rw [if_pos (hO g ι' hg).1]; exact Finset.mem_range.mpr (by have := (hO g ι' hg).2.2; omega))
    (fun p hp => by rw [Finset.mem_singleton.mp hp]; exact le_rfl)
    (fun g ι' hg => (hO g ι' hg).2.1)

theorem above_owed0 (c : Dev nD) : Above 0 (owed0 c) := by
  unfold owed0
  refine above_dues (above_br c) (above_dues (fun s => (above_ag 0 (by omega) c s).mono (by omega)) (above_dues (fun s => (above_rs 0 (by omega) c s).mono (by omega))
    (above_dues (fun s => (above_ag 1 (by omega) c s).mono (by omega)) (above_dues (fun s => (above_rs 1 (by omega) c s).mono (by omega))
    (above_dues (fun s => (above_ag 2 (by omega) c s).mono (by omega)) (above_dues (fun s => (above_rs 2 (by omega) c s).mono (by omega))
    (above_dues (fun s => (above_ag 3 (by omega) c s).mono (by omega)) (above_zero 0) _) _) _) _) _) _) _) _

end Cert.KernelIdeal.Hand
-- ==== Proof.Ideal.Steps.lean ====
/- One rule per operation of the kernel, each with exactly what it takes and what it gives back, and the same rules along a list of slots. -/
module

public import proofs.«01_k».proof.Proof.Ideal.Sched
public import Idealize.ShloMosaic.Lib.Pipeline.BigSepL

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf)

variable {F : FTy → Type} [FloatOps F]

local notation "𝕄" => MT nD τ sig ℕ (Elt F) ℕ UU ℕ

abbrev 𝒱₀ : Variants := Variants.none

/-- The weakest precondition of a program of device `c`. -/
abbrev WP (c : Dev nD) (k : P F) (Q : PUnit.{1} → sProp 𝕄) : sProp 𝕄 := wp frame (wpE (defs₀ (F := F)) 𝒱₀ (c : Thread nD τ) none) Set.univ k Q

/-- What device `c` owes, whatever waits it has recorded. -/
def owesE (c : Dev nD) (O : Tal) : sProp 𝕄 := iprop(∃ W, owes (c : Thread nD τ) O W)

/-! ## The shared facts -/

/-- Every cell's invariant under the names `n`, that round 0 of every cell is reached, and the levels. -/
def Ctx (I : Inputs F) (n : Dev nD × Key → ℕ) : sProp 𝕄 :=
  iprop((bigSep Finset.univ fun ck => cellInv ER (Rd I) (n ck) (kcell ck)) ∗ (bigSep Finset.univ fun ck => reached ER (kcell ck) 0) ∗ levAts L lv)

instance Ctx_persistent (I : Inputs F) (n : Dev nD × Key → ℕ) : BI.Persistent (Ctx I n) := by unfold Ctx; infer_instance

theorem ctx_inv (I : Inputs F) (n : Dev nD × Key → ℕ) (ck : Dev nD × Key) : Ctx I n ⊢ cellInv ER (Rd I) (n ck) (kcell ck) := by
  unfold Ctx
  iintro ⟨H, -, -⟩
  iapply (show (bigSep Finset.univ fun ck : Dev nD × Key => (cellInv ER (Rd I) (n ck) (kcell ck) : sProp 𝕄)) ⊢ cellInv ER (Rd I) (n ck) (kcell ck) from
    bigSep_elim (Finset.mem_univ ck)) $$ H
theorem ctx_reached (I : Inputs F) (n : Dev nD × Key → ℕ) (ck : Dev nD × Key) : Ctx I n ⊢ reached ER (kcell ck) 0 := by
  unfold Ctx
  iintro ⟨-, H, -⟩
  iapply (show (bigSep Finset.univ fun ck : Dev nD × Key => (reached ER (kcell ck) 0 : sProp 𝕄)) ⊢ reached ER (kcell ck) 0 from
    bigSep_elim (Finset.mem_univ ck)) $$ H
/-- A wait at an index below all that is owed may block. -/
theorem ctx_mayWait (I : Inputs F) (n : Dev nD × Key → ℕ) (c : Dev nD) (sm : SemLoc sig) (ι : ℕ) (hι : ι ≤ 8) (O : Tal) (hO : Above ι O) :
    Ctx I n ⊢ MayWait (c : Thread nD τ) sm ι O := by
  unfold Ctx
  iintro ⟨-, -, #H⟩
  iapply (mayWait c sm ι hι O hO)
  iexact H

/-! ## Along a list of slots -/

/-- An operation that pays one due, along a list. -/
theorem each_pay (c : Dev nD) (f : Fin 16 → P F → P F) (R : sProp 𝕄) [BI.Persistent R] (Pre Post : Fin 16 → sProp 𝕄) (Q : PUnit.{1} → sProp 𝕄) (t : Fin 16 → Tal)
    (step : ∀ s, s ≠ 0 → ∀ (O : Tal) (k : P F), iprop(R ∗ Pre s ∗ owesE c (O + t s) ∗ (Post s ∗ owesE c O -∗ WP c k Q)) ⊢ WP c (f s k) Q)
    (K : Tal) (k : P F) : ∀ (l : List (Fin 16)), (∀ s ∈ l, s ≠ 0) →
      iprop(R ∗ bigSepL l Pre ∗ owesE c (dues t l K) ∗ (bigSepL l Post ∗ owesE c K -∗ WP c k Q)) ⊢ WP c (each l f k) Q
  | [], _ => by
    iintro ⟨-, -, HO, Hk⟩
    iapply Hk
    isplitr
    · rw [bigSepL_nil]; iempintro
    iexact HO
  | s :: l, h0 => by
    rw [bigSepL_cons', bigSepL_cons']
    iintro ⟨#HR, ⟨Hp, Hl⟩, HO, Hk⟩
    iapply (step s (h0 s List.mem_cons_self) (dues t l K) (each l f k))
    isplitr; · iexact HR
    isplitl [Hp]; · iexact Hp
    isplitl [HO]; · iexact HO
    iintro ⟨Hs, HO⟩
    iapply (each_pay c f R Pre Post Q t step K k l fun s hs => h0 s (List.mem_cons_of_mem _ hs))
    isplitr; · iexact HR
    isplitl [Hl]; · iexact Hl
    isplitl [HO]; · iexact HO
    iintro ⟨Hl, HO⟩
    iapply Hk
    isplitl [Hs Hl]
    · isplitl [Hs] <;> iassumption
    iexact HO

/-- An operation that leaves what is owed as it is, along a list. -/
theorem each_wait (c : Dev nD) (f : Fin 16 → P F → P F) (R : sProp 𝕄) [BI.Persistent R] (Pre Post : Fin 16 → sProp 𝕄) (Q : PUnit.{1} → sProp 𝕄) (O : Tal)
    (step : ∀ s, s ≠ 0 → ∀ (k : P F), iprop(R ∗ Pre s ∗ owesE c O ∗ (Post s ∗ owesE c O -∗ WP c k Q)) ⊢ WP c (f s k) Q)
    (k : P F) : ∀ (l : List (Fin 16)), (∀ s ∈ l, s ≠ 0) →
      iprop(R ∗ bigSepL l Pre ∗ owesE c O ∗ (bigSepL l Post ∗ owesE c O -∗ WP c k Q)) ⊢ WP c (each l f k) Q
  | [], _ => by
    iintro ⟨-, -, HO, Hk⟩
    iapply Hk
    isplitr
    · rw [bigSepL_nil]; iempintro
    iexact HO
  | s :: l, h0 => by
    rw [bigSepL_cons', bigSepL_cons']
    iintro ⟨#HR, ⟨Hp, Hl⟩, HO, Hk⟩
    iapply (step s (h0 s List.mem_cons_self) (each l f k))
    isplitr; · iexact HR
    isplitl [Hp]; · iexact Hp
    isplitl [HO]; · iexact HO
    iintro ⟨Hs, HO⟩
    iapply (each_wait c f R Pre Post Q O step k l fun s hs => h0 s (List.mem_cons_of_mem _ hs))
    isplitr; · iexact HR
    isplitl [Hl]; · iexact Hl
    isplitl [HO]; · iexact HO
    iintro ⟨Hl, HO⟩
    iapply Hk
    isplitl [Hs Hl]
    · isplitl [Hs] <;> iassumption
    iexact HO

/-! ## The entry -/

section Steps
variable (I : Inputs F) (n : Dev nD × Key → ℕ) (c : Dev nD)

theorem up_neg (c : Dev nD) (s : Fin 16) : up (up c s) (-s) = c := add_neg_cancel_right c s
theorem up_dn (c : Dev nD) (s : Fin 16) : up (dn c s) s = c := sub_add_cancel c s
theorem dn_up (c : Dev nD) (s : Fin 16) : dn (up c s) s = c := add_sub_cancel_right c s

/-- The signal to the device `s` places on: the slot that this device's copy will write is handed over. -/
theorem step_sig (s : Fin 16) (hs : s ≠ 0) (O : Tal) (m : Dev nD) (hm : m = up c s) (k : P F) (Q : PUnit → sProp 𝕄) :
    iprop(Ctx I n ∗ (dutyTok ER (bar (up c s)) 0 (-s) ∗ xGrant 0 c (-s)) ∗ owesE c (O + brDue c s) ∗ (emp ∗ owesE c O -∗ WP c k Q))
      ⊢ WP c (sigTo m k) Q := by
  subst hm
  unfold owesE
  iintro ⟨#HC, ⟨Ht, Hg⟩, ⟨%W, HO⟩, Hk⟩
  ihave #Hinv := (ctx_inv I n (up c s, none)) $$ HC
  ihave #Hr := (ctx_reached I n (up c s, none)) $$ HC
  simp only [sigTo, semSignalWord, Prog.lift, Prog.bind_op, Prog.bind_ret, Prog.pure_eq_ret]
  iapply (Rounds.wp_signal 𝒱₀ ER (Rd I) (c : Thread nD τ) none (dst := (up c s : Thread nD τ)) (κ := n (up c s, none))
      (r := 0) (d := -s) (by rw [duties_bar]; exact Finset.mem_erase.mpr ⟨neg_ne_zero.mpr hs, Finset.mem_univ _⟩)
      ((amount_bar I (up c s) (-s)).trans (by decide)) 1 O rfl) $$ [HO Ht Hg]
  · isplitr; · iexact Hinv
    isplitl [HO]; · iexact HO
    isplitl [Ht]; · iexact Ht
    isplitl [Hg]
    · rw [payload_bar, up_neg]; iexact Hg
    iexact Hr
  iintro HO
  iapply Hk
  isplitr; · iempintro
  iexists W; iexact HO

/-- The entry wait: from every other device the slot that this device's copy into it writes. -/
theorem step_barWait (O : Tal) (hO : Above 1 O) (k : P F) (Q : PUnit → sProp 𝕄) :
    iprop(Ctx I n ∗ (atPos ER (bar c) 0 ∅ 0 ∗ cred (tallyAt (bar c) 1 15)) ∗ owesE c O
        ∗ ((atPos ER (bar c) 1 ∅ 0 ∗ (bigSep (Finset.univ.erase 0) fun s => xGrant 0 (up c s) s)) ∗ owesE c O -∗ WP c k Q))
      ⊢ WP c (barWait k) Q := by
  unfold owesE
  iintro ⟨#HC, ⟨Ht, Hc⟩, ⟨%W, HO⟩, Hk⟩
  ihave #Hinv := (ctx_inv I n (c, none)) $$ HC
  simp only [barWait, semWaitWord, Prog.lift, Prog.bind_op, Prog.bind_ret, Prog.pure_eq_ret]
  iapply (Rounds.wp_wait_rest_token 𝒱₀ ER (Rd I) (c : Thread nD τ) none (κ := n (c, none))
      (wpE_semWait_eq 𝒱₀ (c : Thread nD τ) none Set.univ) (Set.mem_univ _) 1 (O := O) (W := W) (R := 0) (m := 0) (T := ∅)
      ((by decide : 0 + (15#32).toNat = 15).trans (expect_bar I c).symm)) $$ [Ht Hc HO]
  · isplitr; · iexact Hinv
    isplitl [Hc]; · iexact Hc
    isplitl [HO]; · iexact HO
    isplitr; · iapply (ctx_mayWait I n c _ 1 (by omega) O hO); iexact HC
    iexact Ht
  iintro ⟨HO, Ht, -, Hp⟩
  iapply Hk
  isplitl [Ht Hp]
  · isplitl [Ht]; · iexact Ht
    rw [Finset.sdiff_empty, duties_bar]
    rw [bigSep_congr fun s _ => (payload_bar I c s).symm]; iexact Hp
  iexists _; iexact HO

/-! ## The sends -/

/-- Every copy credits the same amount. -/
theorem credit_x (b : Fin 2) (s : Fin 16) : (xS b s).view.dmaCredit = N := rfl
theorem credit_p (s : Fin 16) : (pS s).view.dmaCredit = N := rfl
theorem credit_r (b : Fin 2) (s : Fin 16) : (rS b s).view.dmaCredit = N := rfl

theorem mem_due (a : Fin 4) (l : ℕ) (s : Fin 16) (hs : s ≠ 0) (hl : Live a l) : (0 : Fin 16) ∈ (Rd I).duties (cell c a (par l) s) (l / 2) := by
  rw [duties_cell I c a l s hs hl]; exact Finset.mem_singleton_self _
theorem to_pay (a : Fin 4) (l : ℕ) (s : Fin 16) : pay I l c s a ⊢ (Rd I).payload (cell c a (par l) s) (l / 2) 0 :=
  Entails.of_eq (payload_cell I c a l s 0).symm

/-- What a landing writes is what the schedule says. -/
theorem landed_ag (l : ℕ) (s : Fin 16) (fd : CX F) :
    iprop(((xS (par l) s).view.loc (up c s : Thread nD τ) ↦[(xS (par l) s).view.set]{fullShare}
        ((xS (par l) s).view.write (Elt F) fd ((xS (par l) 0).view.read (Elt F) (XF (act I l) c)) Finset.univ)) ∗ agGrant l c s)
      ⊢ pay I l (up c s) s 1 := by
  unfold pay Xp
  rw [dn_up, pointsTo_congr (land_x (act I l) c (par l) s fd)]
theorem landed_rs (l : ℕ) (s : Fin 16) (fd : CR F) :
    iprop(((rS (par l) s).view.loc (dn c s : Thread nD τ) ↦[(rS (par l) s).view.set]{fullShare}
        ((rS (par l) s).view.write (Elt F) fd ((pS s).view.read (Elt F) (prod I l c)) Finset.univ)) ∗ xGrant (l + 1) c s)
      ⊢ pay I l (dn c s) s 3 := by
  unfold pay Rp
  rw [up_dn, pointsTo_congr (land_r (prod I l) c (par l) s fd)]

/-- A block of layer `l` sent to the device `s` places on. -/
theorem step_agSend (l : ℕ) (hl : l ≤ 3) (s : Fin 16) (hs : s ≠ 0) (O : Tal) (m : Dev nD) (hm : m = up c s) (k : P F) (Q : PUnit → sProp 𝕄) :
    iprop(Ctx I n ∗ (Xp c (par l) 0 (leaf 4 fullShare s) (XF (act I l) c) ∗ xGrant l (up c s) s ∗ agGrant l c s
            ∗ (dutyTok ER (cell c 0 (par l) s) (l / 2) 0 ∗ dutyTok ER (cell (up c s) 1 (par l) s) (l / 2) 0) ∗ reached ER (cell c 0 (par l) s) (l / 2))
          ∗ owesE c (O + agDue l c s) ∗ (cred (tallyAt (cell c 0 (par l) s) 0 N) ∗ owesE c O -∗ WP c k Q))
      ⊢ WP c (agSend (par l) m s k) Q := by
  subst hm
  unfold owesE xGrant Xany
  iintro ⟨#HC, ⟨Hx, ⟨⟨%fd, Hd⟩, #Hrd⟩, Hg, ⟨Ht, Htd⟩, #Hr⟩, ⟨%W, HO⟩, Hk⟩
  ihave #Hinv := (ctx_inv I n (c, some (0, par l, s))) $$ HC
  ihave #Hinvd := (ctx_inv I n (up c s, some (1, par l, s))) $$ HC
  have hsend := Rounds.wp_send_pointsTo_with 𝒱₀ ER (Rd I) (c : Thread nD τ) none (defs := defs₀ (F := F)) (Γ := []) (κ₁ := n (c, some (0, par l, s)))
      (κ₂ := n (up c s, some (1, par l, s))) (c' := ((up c s : Dev nD) : Thread nD τ)) (src := xS (par l) 0) (dst := xS (par l) s)
      (sS := .dma (agSnd (par l) s)) (sem := .dma (agRcv (par l) s)) (q := leaf 4 fullShare s) (fs := XF (act I l) c) (fd := fd) (F := agGrant l c s)
      (r₁ := l / 2) (r₂ := l / 2) (d₁ := 0) (d₂ := 0) (hsc := rfl) (hsrc := exactX (par l) 0) (hdst := exactX (par l) s)
      (hsem := ⟨⟨rfl, Or.inl rfl⟩, trivial⟩) (k := fun _ => k) (Q := Q) (Es := Set.univ) (W := W)
      (mem_due I c 0 l s hs hl) (mem_due I (up c s) 1 l s hs hl)
      (agIx l) 0 N (credit_x _ _) (amount_cell I c 0 _ s _ 0) (amount_cell I (up c s) 1 _ s _ 0) (O₀ := O + agDue l c s) O rfl
      (to_pay I c 0 l s) ((landed_ag I c l s fd).trans (to_pay I (up c s) 1 l s))
  iapply hsend $$ [Hx Hd Hg Ht Htd HO]
  · isplitr; · iexact Hinv
    isplitr; · iexact Hinvd
    isplitl [Hx]; · unfold Xp; iexact Hx
    isplitl [Hd Hg]
    · isplitl [Hd]; · unfold Xp; iexact Hd
      iexact Hg
    isplitl [HO]; · iexact HO
    isplitl [Ht]; · iexact Ht
    isplitr; · iexact Hr
    isplitl [Htd]; · iexact Htd
    iexact Hrd
  iintro ⟨Hc, HO⟩
  iapply Hk
  isplitl [Hc]; · iexact Hc
  iexists W; iexact HO

/-- A product of layer `l` sent to the device `s` places before. -/
theorem step_rsSend (l : ℕ) (hl : l ≤ 2) (s : Fin 16) (hs : s ≠ 0) (O : Tal) (m : Dev nD) (hm : m = dn c s) (k : P F) (Q : PUnit → sProp 𝕄) :
    iprop(Ctx I n ∗ (Pp c s (prod I l c) ∗ agGrant l (dn c s) s ∗ xGrant (l + 1) c s
            ∗ (dutyTok ER (cell c 2 (par l) s) (l / 2) 0 ∗ dutyTok ER (cell (dn c s) 3 (par l) s) (l / 2) 0) ∗ reached ER (cell c 2 (par l) s) (l / 2))
          ∗ owesE c (O + rsDue l c s) ∗ (cred (tallyAt (cell c 2 (par l) s) 0 N) ∗ owesE c O -∗ WP c k Q))
      ⊢ WP c (rsSend (par l) m s k) Q := by
  subst hm
  unfold owesE agGrant Rany
  rw [if_pos hl]
  iintro ⟨#HC, ⟨Hx, ⟨⟨%fd, Hd⟩, #Hrd⟩, Hg, ⟨Ht, Htd⟩, #Hr⟩, ⟨%W, HO⟩, Hk⟩
  ihave #Hinv := (ctx_inv I n (c, some (2, par l, s))) $$ HC
  ihave #Hinvd := (ctx_inv I n (dn c s, some (3, par l, s))) $$ HC
  have hsend := Rounds.wp_send_pointsTo_with 𝒱₀ ER (Rd I) (c : Thread nD τ) none (defs := defs₀ (F := F)) (Γ := []) (κ₁ := n (c, some (2, par l, s)))
      (κ₂ := n (dn c s, some (3, par l, s))) (c' := ((dn c s : Dev nD) : Thread nD τ)) (src := pS s) (dst := rS (par l) s)
      (sS := .dma (rsSnd (par l) s)) (sem := .dma (rsRcv (par l) s)) (q := fullShare) (fs := prod I l c) (fd := fd) (F := xGrant (l + 1) c s)
      (r₁ := l / 2) (r₂ := l / 2) (d₁ := 0) (d₂ := 0) (hsc := rfl) (hsrc := exactP s) (hdst := exactR (par l) s)
      (hsem := ⟨⟨rfl, Or.inl rfl⟩, trivial⟩) (k := fun _ => k) (Q := Q) (Es := Set.univ) (W := W)
      (mem_due I c 2 l s hs hl) (mem_due I (dn c s) 3 l s hs hl)
      (rsIx l) 0 N (credit_r _ _) (amount_cell I c 2 _ s _ 0) (amount_cell I (dn c s) 3 _ s _ 0) (O₀ := O + rsDue l c s) O rfl
      (to_pay I c 2 l s) ((landed_rs I c l s fd).trans (to_pay I (dn c s) 3 l s))
  iapply hsend $$ [Hx Hd Hg Ht Htd HO]
  · isplitr; · iexact Hinv
    isplitr; · iexact Hinvd
    isplitl [Hx]; · unfold Pp; iexact Hx
    isplitl [Hd Hg]
    · isplitl [Hd]; · unfold Rp; iexact Hd
      iexact Hg
    isplitl [HO]; · iexact HO
    isplitl [Ht]; · iexact Ht
    isplitr; · iexact Hr
    isplitl [Htd]; · iexact Htd
    iexact Hrd
  iintro ⟨Hc, HO⟩
  iapply Hk
  isplitl [Hc]; · iexact Hc
  iexists W; iexact HO

/-! ## The waits -/

/-- A wait for the landing of layer `l` on entry `s` of an array, by whichever operation that waits for a block's credit there. -/
theorem step_wait (a : Fin 4) (l : ℕ) (hl : Live a l) (s : Fin 16) (hs : s ≠ 0) (ι : ℕ) (hι : ι ≤ 8) (O : Tal) (hO : Above ι O)
    {w : TpuEff nD τ sig (Elt F) Λ₀ .tc PUnit}
    (hw : ∀ K : PUnit → sProp 𝕄, wpE (defs₀ (F := F)) 𝒱₀ (c : Thread nD τ) none Set.univ w K = waitSpec (c : Thread nD τ) Set.univ (keySem (some (a, par l, s))) N K)
    (k : P F) (Q : PUnit → sProp 𝕄) :
    iprop(Ctx I n ∗ (atPos ER (cell c a (par l) s) (l / 2) ∅ 0 ∗ cred (tallyAt (cell c a (par l) s) ι N)) ∗ owesE c O
        ∗ (((atPos ER (cell c a (par l) s) (l / 2 + 1) ∅ 0 ∗ reached ER (cell c a (par l) s) (l / 2 + 1)) ∗ pay I l c s a) ∗ owesE c O -∗ WP c k Q))
      ⊢ WP c (.op w fun _ => k) Q := by
  unfold owesE
  iintro ⟨#HC, ⟨Ht, Hc⟩, ⟨%W, HO⟩, Hk⟩
  ihave #Hinv := (ctx_inv I n (c, some (a, par l, s))) $$ HC
  iapply (Rounds.wp_wait_rest_token 𝒱₀ ER (Rd I) (c : Thread nD τ) none (κ := n (c, some (a, par l, s)))
      hw (Set.mem_univ _) ι (O := O) (W := W) (R := l / 2) (m := 0) (T := ∅)
      ((Nat.zero_add _).trans (expect_cell I c a l s hs hl).symm)) $$ [Ht Hc HO]
  · isplitr; · iexact Hinv
    isplitl [Hc]; · iexact Hc
    isplitl [HO]; · iexact HO
    isplitr; · iapply (ctx_mayWait I n c _ ι hι O hO); iexact HC
    iexact Ht
  iintro ⟨HO, Ht, Hr, Hp⟩
  iapply Hk
  isplitl [Ht Hr Hp]
  · isplitl [Ht Hr]
    · isplitl [Ht]; · iexact Ht
      iexact Hr
    iapply (Entails.of_eq (rest_cell I c a l s hs hl)) $$ Hp
  iexists _; iexact HO

end Steps

end Cert.KernelIdeal.Hand
-- ==== Proof.Ideal.Local.lean ====
/- The operations of a device on its own buffers, and how the slots of a buffer make up the regions that they touch. -/
module

public import proofs.«01_k».proof.Proof.Ideal.Steps

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf)

variable {F : FTy → Type} [FloatOps F]

local notation "𝕄" => MT nD τ sig ℕ (Elt F) ℕ UU ℕ

/-! ## Families over the slots -/

theorem sepL_nil_sep : (iprop(emp) : sProp 𝕄) = iprop(emp ∗ emp) := by
  have h1 : (iprop(emp) : sProp 𝕄) ⊢ iprop(emp ∗ emp) := by
    iintro -; isplitr <;> iempintro
  have h2 : (iprop(emp ∗ emp) : sProp 𝕄) ⊢ iprop(emp) := by
    iintro -; iempintro
  exact BI.Entails.antisymm h1 h2
theorem sep_swap (A B C D : sProp 𝕄) : iprop((A ∗ B) ∗ C ∗ D) = iprop((A ∗ C) ∗ B ∗ D) := by
  have h : ∀ A B C D : sProp 𝕄, iprop((A ∗ B) ∗ C ∗ D) ⊢ iprop((A ∗ C) ∗ B ∗ D) := by
    intro A B C D
    iintro ⟨⟨H1, H2⟩, H3, H4⟩
    isplitl [H1 H3]
    · isplitl [H1] <;> iassumption
    isplitl [H2] <;> iassumption
  exact BI.Entails.antisymm (h A B C D) (h A C B D)
/-- A family of pairs is the two families. -/
theorem sepL_sep (Φ Ψ : Fin 16 → sProp 𝕄) : ∀ l : List (Fin 16), bigSepL l (fun s => iprop(Φ s ∗ Ψ s)) = iprop(bigSepL l Φ ∗ bigSepL l Ψ)
  | [] => sepL_nil_sep
  | s :: l => by
    rw [bigSepL_cons', bigSepL_cons', bigSepL_cons', sepL_sep Φ Ψ l]
    exact sep_swap _ _ _ _

instance sepL_persistent (Φ : Fin 16 → sProp 𝕄) [∀ s, BI.Persistent (Φ s)] : ∀ l : List (Fin 16), BI.Persistent (bigSepL l Φ)
  | [] => by
    show BI.Persistent (iprop(emp) : sProp 𝕄)
    infer_instance
  | s :: l => by
    have := sepL_persistent Φ l
    have h : BI.Persistent (iprop(Φ s ∗ bigSepL l Φ) : sProp 𝕄) := inferInstance
    rwa [bigSepL_cons']

theorem univ_peers (Φ : Fin 16 → sProp 𝕄) : bigSep Finset.univ Φ = iprop(Φ 0 ∗ bigSepL peers Φ) :=
  (bigSep_univ_eq_bigSepL (0 :: peers) (by decide) (by decide) Φ).trans (bigSepL_cons' _ _ _)
theorem erase_peers (Φ : Fin 16 → sProp 𝕄) : bigSep (Finset.univ.erase 0) Φ = bigSepL peers Φ :=
  bigSep_eq_bigSepL_of_eq peers (by decide) (by decide) Φ
theorem peers_ne : ∀ s ∈ peers, s ≠ 0 := by decide
theorem grp_ne : ∀ g, ∀ s ∈ grp g, s ≠ 0 := by decide

/-- The slots but the own one, group by group. -/
theorem peers_grp (Φ : Fin 16 → sProp 𝕄) : bigSepL peers Φ = iprop(bigSepL (grp 0) Φ ∗ bigSepL (grp 1) Φ ∗ bigSepL (grp 2) Φ ∗ bigSepL (grp 3) Φ) := by
  rw [show peers = grp 0 ++ (grp 1 ++ (grp 2 ++ grp 3)) from rfl, bigSepL_append, bigSepL_append, bigSepL_append]

/-- All four slots of a group. -/
def quad (g : Fin 4) : List (Fin 16) := [0, 1, 2, 3].map (slot4 g)
theorem quad_eq : ∀ g, g ≠ 0 → quad g = grp g := by decide
theorem quad_zero : quad 0 = 0 :: grp 0 := by decide
theorem sep_quad (g : Fin 4) (Φ : Fin 16 → sProp 𝕄) : bigSep Finset.univ (fun q : Fin 4 => Φ (slot4 g q)) = bigSepL (quad g) Φ := by
  unfold quad
  rw [bigSepL_map]
  exact bigSep_univ_eq_bigSepL ([0, 1, 2, 3] : List (Fin 4)) (by decide) (by decide) (fun q => Φ (slot4 g q))

/-! ## Slots and regions -/

section
variable (c : Dev nD)

/-- A whole slot is the share that stays and the fifteen that the sends take. -/
theorem leaves_x (b : Fin 2) (s : Fin 16) (f : CX F) :
    Xp c b s fullShare f = iprop(Xp c b s (leaf 4 fullShare 0) f ∗ bigSepL peers fun i => Xp c b s (leaf 4 fullShare i) f) := by
  have h := ShareLeaves.pointsTo_leaves (ℓ := (xS b s).view.loc (c : Thread nD τ)) (Ix := ℕ) (Val := Elt F) (Name := ℕ) (Lvl := ℕ) (U := UU) (xS b s).view.set f 4 fullShare
  exact h.trans (univ_peers fun i : Fin 16 => Xp c b s (leaf 4 fullShare i) f)

theorem region_x4 (b : Fin 2) (g : Fin 4) (q : PosShare TreeShare) (f : CX F) :
    bigSepL (quad g) (fun s => Xp c b s q f) = (xM.view.loc (c : Thread nD τ) ↦[xM.view.setOn (xR4 b g).toLoadRect.set]{q} f : sProp 𝕄) := by
  rw [set_xR4, ← sep_quad, pointsTo_biUnion]
  · rfl
  · intro i _ j _ h
    refine disj_xS _ _ _ _ fun h' => h (Fin.ext ?_)
    have := congrArg (fun p : Fin 2 × Fin 16 => p.2.val) h'
    simp only [slot4_val] at this
    omega

theorem disj_quad (g : Fin 4) : ∀ i ∈ (Finset.univ : Finset (Fin 4)), ∀ j ∈ (Finset.univ : Finset (Fin 4)), i ≠ j → Disjoint (pS (slot4 g i)).view.set (pS (slot4 g j)).view.set := by
  intro i _ j _ h
  refine disj_pS _ _ fun h' => h (Fin.ext ?_)
  have := congrArg Fin.val h'
  simp only [slot4_val] at this
  omega

theorem region_p4 (g : Fin 4) (f : CP F) :
    bigSepL (quad g) (fun s => Pp c s f) = ((pM.access (pR4 g)).loc (c : Thread nD τ) ↦[(pM.access (pR4 g) : View sig .tc _ _ _).set]{fullShare} f : sProp 𝕄) := by
  rw [set_pR4, ← sep_quad, pointsTo_biUnion _ _ (disj_quad g)]
  rfl

/-- Some contents of `prod_buf`. -/
def zeroP : CP F := fun _ => FloatOps.ofBits .bf16 0

theorem region_p4_any (g : Fin 4) :
    bigSepL (quad g) (fun s => Pany c s) ⊢ iprop(∃ f, ((pM.access (pR4 g)).loc (c : Thread nD τ) ↦[(pM.access (pR4 g) : View sig .tc _ _ _).set]{fullShare} f : sProp 𝕄)) := by
  rw [set_pR4, ← sep_quad]
  haveI : Nonempty (CP F) := ⟨zeroP⟩
  unfold Pany
  iintro H
  ihave H := (Idealize.SL.BI.bigSep_exists_pi (Y := fun _ : Fin 4 => CP F) Finset.univ fun (q : Fin 4) (f : CP F) => Pp c (slot4 g q) f) $$ H
  icases H with ⟨%fs, H⟩
  have hj := pointsTo_biUnion_join (Ix := ℕ) (Val := Elt F) (Name := ℕ) (Lvl := ℕ) (U := UU) (ℓ := pM.view.loc (c : Thread nD τ)) (q := fullShare) Finset.univ
    (fun q => (pS (slot4 g q)).view.set) fs zeroP (disj_quad g)
  ihave H := (show (bigSep Finset.univ fun q : Fin 4 => Pp c (slot4 g q) (fs q)) ⊢ _ from hj) $$ H
  icases H with ⟨%f, -, H⟩
  iexists f
  iexact H

theorem region_r16 (b : Fin 2) (f : CR F) :
    bigSep Finset.univ (fun s => Rp c b s f) = (rM.view.loc (c : Thread nD τ) ↦[rM.view.setOn (rR16 b).toLoadRect.set]{fullShare} f : sProp 𝕄) := by
  rw [set_rR16, pointsTo_biUnion]
  · rfl
  · intro i _ j _ h
    exact disj_rS _ _ _ _ fun h' => h (congrArg Prod.snd h')

/-! ## The operations -/

theorem loadOn {sp : CoreSpace} {s : Shape} {e : EltTy} {m : Memref sig .tc sp s e} {r : Rect s} {S : Finset (Idx (m.view.loc (c : Thread nD τ)))}
    (h : (m.access r : View sig .tc _ _ _).set ⊆ S) : m.view.setOn r.toLoadRect.set ⊆ S := by
  rwa [View.set_slice] at h

/-- A block stored into slot 0 of a buffer of `xfull`. -/
theorem step_putX (c : Dev nD) (Q : PUnit → sProp 𝕄) (b : Fin 2) (A : Dev nD → Blk F) (v : Blk F) (hv : v = A c) (k : P F) :
    iprop(Xany c b 0 ∗ (Xp c b 0 fullShare (XF A c) -∗ WP c k Q)) ⊢ WP c (putX b v k) Q := by
  subst hv
  unfold Xany Xp
  rw [set_xS]
  iintro ⟨⟨%f, Hx⟩, Hk⟩
  iapply (wp_load 𝒱₀ (c : Thread nD τ) none Set.univ (m := xM) (loadOn c subset_rfl)) $$ Hx; iintro Hx
  iapply (wp_store 𝒱₀ (c : Thread nD τ) none Set.univ (m := xM) (r := xR b 0) (Mk := Finset.univ) (by rw [View.setOn_univ])) $$ Hx; iintro Hx
  iapply Hk
  rw [← set_xS]
  iapply (Entails.of_eq (pointsTo_congr (ℓ := (xS b 0).view.loc (c : Thread nD τ)) (q := fullShare) (store_x A c b f))) $$ Hx

/-- A group's products. -/
theorem step_products (c : Dev nD) (Q : PUnit → sProp 𝕄) (b : Fin 2) (w1 : FVec F S128x256 .bf16) (w2 : FVec F S256x128 .bf16) (g : Fin 4)
    (q : PosShare TreeShare) (X : CX F) (k : P F) :
    iprop(bigSepL (quad g) (fun s => Xp c b s q X) ∗ bigSepL (quad g) (fun s => Pany c s)
        ∗ (bigSepL (quad g) (fun s => Xp c b s q X) ∗ bigSepL (quad g) (fun s => Pp c s (PF w1 w2 b X)) -∗ WP c k Q))
      ⊢ WP c (products b w1 w2 g k) Q := by
  rw [region_x4, region_p4]
  iintro ⟨Hx, Hp, Hk⟩
  ihave Hp := (region_p4_any c g) $$ Hp
  icases Hp with ⟨%f, Hp⟩
  iapply (wp_load 𝒱₀ (c : Thread nD τ) none Set.univ (m := xM) subset_rfl) $$ Hx; iintro Hx
  iapply (wp_load 𝒱₀ (c : Thread nD τ) none Set.univ (m := pM) (loadOn c subset_rfl)) $$ Hp; iintro Hp
  iapply (wp_store 𝒱₀ (c : Thread nD τ) none Set.univ (m := pM) (r := pR4 g) (Mk := Finset.univ) (by rw [View.setOn_univ])) $$ Hp; iintro Hp
  iapply Hk
  isplitl [Hx]; · iexact Hx
  iapply (Entails.of_eq (pointsTo_congr (ℓ := (pM.access (pR4 g) : View sig .tc _ _ _).loc (c : Thread nD τ)) (q := fullShare) (store_p w1 w2 b X g f))) $$ Hp

/-- The own product copied to the own slot of `rs_buf`. -/
theorem step_ownProduct (c : Dev nD) (Q : PUnit → sProp 𝕄) (b : Fin 2) (D : Dev nD → CP F) (k : P F) :
    iprop(Pp c 0 (D c) ∗ Rany c b 0 ∗ (Pp c 0 (D c) ∗ Rp c b 0 (RF D c) -∗ WP c k Q)) ⊢ WP c (ownProduct b k) Q := by
  unfold Rany Rp Pp
  rw [set_pS, set_rS]
  iintro ⟨Hp, ⟨%f, Hr⟩, Hk⟩
  iapply (wp_load 𝒱₀ (c : Thread nD τ) none Set.univ (m := pM) (loadOn c subset_rfl)) $$ Hp; iintro Hp
  iapply (wp_load 𝒱₀ (c : Thread nD τ) none Set.univ (m := rM) (loadOn c subset_rfl)) $$ Hr; iintro Hr
  iapply (wp_store 𝒱₀ (c : Thread nD τ) none Set.univ (m := rM) (r := rR b 0) (Mk := Finset.univ) (by rw [View.setOn_univ])) $$ Hr; iintro Hr
  iapply Hk
  isplitl [Hp]; · iexact Hp
  rw [← set_rS]
  iapply (Entails.of_eq (pointsTo_congr (ℓ := (rS b 0).view.loc (c : Thread nD τ)) (q := fullShare) (store_r D c b f))) $$ Hr

/-- The sum of the sixteen products stored as the next block. -/
theorem step_reduce (c : Dev nD) (Q : PUnit → sProp 𝕄) (b b' : Fin 2) (D : Dev nD → CP F) (A : Dev nD → Blk F)
    (hA : k0_pay11 (rM.view.readAt (Elt F) (rR16 b).toLoadRect (RF D c)) = A c) (k : P F) :
    iprop(bigSep Finset.univ (fun s => Rp c b s (RF D c)) ∗ Xany c b' 0
        ∗ (bigSep Finset.univ (fun s => Rp c b s (RF D c)) ∗ Xp c b' 0 fullShare (XF A c) -∗ WP c k Q))
      ⊢ WP c (reduce b b' k) Q := by
  rw [region_r16]
  iintro ⟨Hr, Hx, Hk⟩
  iapply (wp_load 𝒱₀ (c : Thread nD τ) none Set.univ (m := rM) subset_rfl) $$ Hr; iintro Hr
  iapply (step_putX c Q b' A _ hA k)
  isplitl [Hx]; · iexact Hx
  iintro Hx
  iapply Hk
  isplitl [Hr] <;> iassumption

/-- A block written to its rows of the result. -/
theorem step_emit (c : Dev nD) (Q : PUnit → sProp 𝕄) (A : Dev nD → Blk F) (s : Fin 16) (q : PosShare TreeShare) (f : CO F) (k : P F) :
    iprop(Xp c 1 s q (XF A c) ∗ (((c : Thread nD τ).loc cc0_stg7_0) ↦{fullShare} f)
        ∗ (Xp c 1 s q (XF A c) ∗ (((c : Thread nD τ).loc cc0_stg7_0) ↦{fullShare} (fun i => if slotOf (i 0) = dn c s then OF A i else f i : CO F)) -∗ WP c k Q))
      ⊢ WP c (emit oM (offAt c s) (offAt_inb c s) s k) Q := by
  unfold Xp
  rw [set_xS]
  iintro ⟨Hx, Ho, Hk⟩
  iapply (wp_load 𝒱₀ (c : Thread nD τ) none Set.univ (m := xM) (loadOn c subset_rfl)) $$ Hx; iintro Hx
  iapply (wp_load 𝒱₀ (c : Thread nD τ) none Set.univ (m := oM) (Finset.subset_univ _)) $$ Ho; iintro Ho
  iapply (wp_store 𝒱₀ (c : Thread nD τ) none Set.univ (m := oM) (r := oR (offAt c s) (offAt_inb c s)) (Mk := Finset.univ) (Finset.subset_univ _)) $$ Ho; iintro Ho
  iapply Hk
  isplitl [Hx]; · iexact Hx
  rw [read_x A c 1 s, show (oM.access (oR (offAt c s) (offAt_inb c s)) : View sig .tc _ _ _).write (Elt F) f (k0_pay30 (A (dn c s))) Finset.univ = _ from
    funext (store_o A (offAt_eq c s) (offAt_inb c s) f)]
  iexact Ho

end

end Cert.KernelIdeal.Hand
-- ==== Proof.Ideal.Group.lean ====
/- The waits and the sends of a layer along a list of slots, and a layer's four groups of products. -/
module

public import proofs.«01_k».proof.Proof.Ideal.Local

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf)

variable {F : FTy → Type} [FloatOps F]

local notation "𝕄" => MT nD τ sig ℕ (Elt F) ℕ UU ℕ

section
variable (I : Inputs F) (n : Dev nD × Key → ℕ) (c : Dev nD)

/-! ## Families over the slots -/

/-- Device `c`'s positions and reached rounds on the entries of array `k` of buffer `par l`, before layer `l`'s round. -/
def pAt (k : Fin 4) (l : ℕ) (s : Fin 16) : sProp 𝕄 := atPos ER (cell c k (par l) s) (l / 2) ∅ 0
def rch (k : Fin 4) (l : ℕ) (s : Fin 16) : sProp 𝕄 := reached ER (cell c k (par l) s) (l / 2)
/-- The tokens of layer `l`'s sends, reduce-scatter and all-gather. -/
def tokR (l : ℕ) (s : Fin 16) : sProp 𝕄 := iprop(dutyTok ER (cell c 2 (par l) s) (l / 2) 0 ∗ dutyTok ER (cell (dn c s) 3 (par l) s) (l / 2) 0)
def tokA (l : ℕ) (s : Fin 16) : sProp 𝕄 := iprop(dutyTok ER (cell c 0 (par l) s) (l / 2) 0 ∗ dutyTok ER (cell (up c s) 1 (par l) s) (l / 2) 0)
/-- The credit of a wait on an entry of array `k` at index `ι`. -/
def crd (k : Fin 4) (l : ℕ) (ι : ℕ) (s : Fin 16) : sProp 𝕄 := cred (tallyAt (cell c k (par l) s) ι N)
/-- The slot of `rs_buf` that layer `l`'s all-gather does not give away. -/
def keepR (l : ℕ) (s : Fin 16) : sProp 𝕄 := if l ≤ 2 then iprop(emp) else Rany c (par l) s

instance rch_persistent (k : Fin 4) (l : ℕ) (s : Fin 16) : BI.Persistent (rch (F := F) c k l s) := by unfold rch; infer_instance

theorem par_next (l : ℕ) : par (l + 2) = par l := Fin.ext (Nat.add_mod_right l 2)
theorem half_next (l : ℕ) : (l + 2) / 2 = l / 2 + 1 := Nat.add_div_right l (by decide)

/-- What a slot of `rs_buf` is given away with, and what stays. -/
theorem grant_keep (l : ℕ) (s : Fin 16) : iprop(Rany c (par l) s ∗ rch c 3 l s) ⊢ iprop(agGrant (F := F) l c s ∗ keepR c l s) := by
  unfold agGrant keepR rch
  split
  · iintro H
    isplitl [H]; · iexact H
    iempintro
  · iintro ⟨H, -⟩
    isplitr; · iempintro
    iexact H

/-! ## Waits and sends along a list -/

/-- The waits of layer `l` on an array. -/
theorem waits (a : Fin 4) (l : ℕ) (hl : Live a l) (ι : ℕ) (hι : ι ≤ 8) (O : Tal) (hO : Above ι O)
    (w : Fin 16 → TpuEff nD τ sig (Elt F) Λ₀ .tc PUnit)
    (hw : ∀ (s : Fin 16) (K : PUnit → sProp 𝕄), wpE (defs₀ (F := F)) 𝒱₀ (c : Thread nD τ) none Set.univ (w s) K = waitSpec (c : Thread nD τ) Set.univ (keySem (some (a, par l, s))) N K)
    (k : P F) (Q : PUnit → sProp 𝕄) (ls : List (Fin 16)) (h0 : ∀ s ∈ ls, s ≠ 0) :
    iprop(Ctx I n ∗ (bigSepL ls (pAt c a l) ∗ bigSepL ls (crd c a l ι)) ∗ owesE c O
        ∗ (((bigSepL ls (pAt c a (l + 2)) ∗ bigSepL ls (rch c a (l + 2))) ∗ bigSepL ls fun s => pay I l c s a) ∗ owesE c O -∗ WP c k Q))
      ⊢ WP c (each ls (fun s k => .op (w s) fun _ => k) k) Q := by
  have h := each_wait c (fun s k => .op (w s) fun _ => k) (Ctx I n) (fun s => iprop(pAt c a l s ∗ crd c a l ι s))
    (fun s => iprop((pAt c a (l + 2) s ∗ rch c a (l + 2) s) ∗ pay I l c s a)) Q O (fun s hs k => by
      unfold pAt rch crd
      rw [par_next, half_next]
      exact step_wait I n c a l hl s hs ι hι O hO (hw s) k Q) k ls h0
  rw [sepL_sep, sepL_sep, sepL_sep] at h
  exact h

theorem agWaits (l : ℕ) (hl : l ≤ 3) (O : Tal) (hO : Above (agIx l) O) (k : P F) (Q : PUnit → sProp 𝕄) (ls : List (Fin 16)) (h0 : ∀ s ∈ ls, s ≠ 0) :
    iprop(Ctx I n ∗ (bigSepL ls (pAt c 1 l) ∗ bigSepL ls (crd c 1 l (agIx l))) ∗ owesE c O
        ∗ (((bigSepL ls (pAt c 1 (l + 2)) ∗ bigSepL ls (rch c 1 (l + 2)))
            ∗ (bigSepL ls fun s => Xp c (par l) s fullShare (XF (act I l) c)) ∗ bigSepL ls fun s => agGrant l (dn c s) s) ∗ owesE c O -∗ WP c k Q))
      ⊢ WP c (each ls (agWait (par l)) k) Q := by
  rw [← sepL_sep (fun s => Xp c (par l) s fullShare (XF (act I l) c))]
  exact waits I n c 1 l hl (agIx l) (by unfold agIx; omega) O hO (fun s => .waitDma2 (agRcv (par l) s) (xS (par l) 0) (xS (par l) s) (exactX (par l) 0) (exactX (par l) s))
    (fun s => wpE_waitDma2_eq 𝒱₀ (c : Thread nD τ) none Set.univ) k Q ls h0

theorem rsWaits (l : ℕ) (hl : l ≤ 2) (O : Tal) (hO : Above (rsIx l) O) (k : P F) (Q : PUnit → sProp 𝕄) (ls : List (Fin 16)) (h0 : ∀ s ∈ ls, s ≠ 0) :
    iprop(Ctx I n ∗ (bigSepL ls (pAt c 3 l) ∗ bigSepL ls (crd c 3 l (rsIx l))) ∗ owesE c O
        ∗ (((bigSepL ls (pAt c 3 (l + 2)) ∗ bigSepL ls (rch c 3 (l + 2)))
            ∗ (bigSepL ls fun s => Rp c (par l) s (RF (prod I l) c)) ∗ bigSepL ls fun s => xGrant (l + 1) (up c s) s) ∗ owesE c O -∗ WP c k Q))
      ⊢ WP c (each ls (rsWait (par l)) k) Q := by
  rw [← sepL_sep (fun s => Rp c (par l) s (RF (prod I l) c))]
  exact waits I n c 3 l hl (rsIx l) (by unfold rsIx; omega) O hO (fun s => .waitDma2 (rsRcv (par l) s) (pS 0) (rS (par l) s) (exactP 0) (exactR (par l) s))
    (fun s => wpE_waitDma2_eq 𝒱₀ (c : Thread nD τ) none Set.univ) k Q ls h0

theorem agSents (l : ℕ) (hl : l ≤ 3) (O : Tal) (hO : Above 0 O) (k : P F) (Q : PUnit → sProp 𝕄) (ls : List (Fin 16)) (h0 : ∀ s ∈ ls, s ≠ 0) :
    iprop(Ctx I n ∗ (bigSepL ls (pAt c 0 l) ∗ bigSepL ls (crd c 0 l 0)) ∗ owesE c O
        ∗ (((bigSepL ls (pAt c 0 (l + 2)) ∗ bigSepL ls (rch c 0 (l + 2))) ∗ bigSepL ls fun s => Xp c (par l) 0 (leaf 4 fullShare s) (XF (act I l) c)) ∗ owesE c O -∗ WP c k Q))
      ⊢ WP c (each ls (agSent (par l)) k) Q :=
  waits I n c 0 l hl 0 (by omega) O hO (fun s => .waitDma2 (agSnd (par l) s) (xS (par l) s) (xS (par l) 0) (exactX (par l) s) (exactX (par l) 0))
    (fun s => wpE_waitDma2_eq 𝒱₀ (c : Thread nD τ) none Set.univ) k Q ls h0

theorem rsSents (l : ℕ) (hl : l ≤ 2) (O : Tal) (hO : Above 0 O) (k : P F) (Q : PUnit → sProp 𝕄) (ls : List (Fin 16)) (h0 : ∀ s ∈ ls, s ≠ 0) :
    iprop(Ctx I n ∗ (bigSepL ls (pAt c 2 l) ∗ bigSepL ls (crd c 2 l 0)) ∗ owesE c O
        ∗ (((bigSepL ls (pAt c 2 (l + 2)) ∗ bigSepL ls (rch c 2 (l + 2))) ∗ bigSepL ls fun s => Pp c s (prod I l c)) ∗ owesE c O -∗ WP c k Q))
      ⊢ WP c (each ls (rsSent (par l)) k) Q :=
  waits I n c 2 l hl 0 (by omega) O hO (fun s => .waitDma2 (rsSnd (par l) s) (rS (par l) s) (pS s) (exactR (par l) s) (exactP s))
    (fun s => wpE_waitDma2_eq 𝒱₀ (c : Thread nD τ) none Set.univ) k Q ls h0

/-- The all-gather's sends of layer `l`. -/
theorem agSends (l : ℕ) (hl : l ≤ 3) (dev : Fin 16 → Dev nD) (hdev : ∀ s, s ≠ 0 → dev s = up c s) (K : Tal) (k : P F) (Q : PUnit → sProp 𝕄)
    (ls : List (Fin 16)) (h0 : ∀ s ∈ ls, s ≠ 0) :
    iprop(Ctx I n ∗ ((bigSepL ls fun s => Xp c (par l) 0 (leaf 4 fullShare s) (XF (act I l) c)) ∗ (bigSepL ls fun s => xGrant l (up c s) s)
          ∗ (bigSepL ls fun s => agGrant l c s) ∗ bigSepL ls (tokA c l) ∗ bigSepL ls (rch c 0 l)) ∗ owesE c (dues (agDue l c) ls K)
        ∗ (bigSepL ls (crd c 0 l 0) ∗ owesE c K -∗ WP c k Q))
      ⊢ WP c (each ls (fun s => agSend (par l) (dev s) s) k) Q := by
  have h := each_pay c (fun s => agSend (par l) (dev s) s) (Ctx I n)
    (fun s => iprop(Xp c (par l) 0 (leaf 4 fullShare s) (XF (act I l) c) ∗ xGrant l (up c s) s ∗ agGrant l c s ∗ tokA c l s ∗ rch c 0 l s)) (crd c 0 l 0) Q (agDue l c)
    (fun s hs O k => step_agSend I n c l hl s hs O (dev s) (hdev s hs) k Q) K k ls h0
  rw [sepL_sep, sepL_sep, sepL_sep, sepL_sep] at h
  exact h

/-- The reduce-scatter's sends of layer `l`. -/
theorem rsSends (l : ℕ) (hl : l ≤ 2) (dev : Fin 16 → Dev nD) (hdev : ∀ s, s ≠ 0 → dev s = dn c s) (K : Tal) (k : P F) (Q : PUnit → sProp 𝕄)
    (ls : List (Fin 16)) (h0 : ∀ s ∈ ls, s ≠ 0) :
    iprop(Ctx I n ∗ ((bigSepL ls fun s => Pp c s (prod I l c)) ∗ (bigSepL ls fun s => agGrant l (dn c s) s)
          ∗ (bigSepL ls fun s => xGrant (l + 1) c s) ∗ bigSepL ls (tokR c l) ∗ bigSepL ls (rch c 2 l)) ∗ owesE c (dues (rsDue l c) ls K)
        ∗ (bigSepL ls (crd c 2 l 0) ∗ owesE c K -∗ WP c k Q))
      ⊢ WP c (each ls (fun s => rsSend (par l) (dev s) s) k) Q := by
  have h := each_pay c (fun s => rsSend (par l) (dev s) s) (Ctx I n)
    (fun s => iprop(Pp c s (prod I l c) ∗ agGrant l (dn c s) s ∗ xGrant (l + 1) c s ∗ tokR c l s ∗ rch c 2 l s)) (crd c 2 l 0) Q (rsDue l c)
    (fun s hs O k => step_rsSend I n c l hl s hs O (dev s) (hdev s hs) k Q) K k ls h0
  rw [sepL_sep, sepL_sep, sepL_sep, sepL_sep] at h
  exact h

/-! ## A group -/

/-- What a group takes from its slots: the waits, the room for the products, the sends. -/
def grpIn (l : ℕ) (s : Fin 16) : sProp 𝕄 :=
  iprop(pAt c 1 l s ∗ crd c 1 l (agIx l) s ∗ Pany c s ∗ xGrant (l + 1) c s ∗ tokR c l s ∗ rch c 2 l s)
/-- What it leaves. -/
def grpOut (l : ℕ) (s : Fin 16) : sProp 𝕄 :=
  iprop(pAt c 1 (l + 2) s ∗ rch c 1 (l + 2) s ∗ Xp c (par l) s fullShare (XF (act I l) c) ∗ crd c 2 l 0 s)

/-- A group: the blocks arrive, the products are computed by `mid`, and are sent. -/
theorem group (l : ℕ) (hl : l ≤ 2) (ls : List (Fin 16)) (h0 : ∀ s ∈ ls, s ≠ 0) (dev : Fin 16 → Dev nD) (hdev : ∀ s, s ≠ 0 → dev s = dn c s)
    (K : Tal) (hK : Above (agIx l) K) (mid : P F → P F) (R1 R2 : sProp 𝕄)
    (hmid : ∀ (k : P F) (Q : PUnit → sProp 𝕄), iprop(R1 ∗ (bigSepL ls fun s => Xp c (par l) s fullShare (XF (act I l) c)) ∗ bigSepL ls (Pany c)
        ∗ (R2 ∗ (bigSepL ls fun s => Xp c (par l) s fullShare (XF (act I l) c)) ∗ (bigSepL ls fun s => Pp c s (prod I l c)) -∗ WP c k Q)) ⊢ WP c (mid k) Q)
    (k : P F) (Q : PUnit → sProp 𝕄) :
    iprop(Ctx I n ∗ bigSepL ls (grpIn c l) ∗ R1 ∗ owesE c (dues (rsDue l c) ls K)
        ∗ (bigSepL ls (grpOut I c l) ∗ R2 ∗ owesE c K -∗ WP c k Q))
      ⊢ WP c (each ls (agWait (par l)) <| mid <| each ls (fun s => rsSend (par l) (dev s) s) k) Q := by
  rw [show grpIn (F := F) c l = fun s => iprop(pAt c 1 l s ∗ crd c 1 l (agIx l) s ∗ Pany c s ∗ xGrant (l + 1) c s ∗ tokR c l s ∗ rch c 2 l s) from rfl,
    show grpOut I c l = fun s => iprop(pAt c 1 (l + 2) s ∗ rch c 1 (l + 2) s ∗ Xp c (par l) s fullShare (XF (act I l) c) ∗ crd c 2 l 0 s) from rfl]
  simp only [sepL_sep]
  iintro ⟨#HC, ⟨Ha, Hc, Hp, Hx, Ht, Hr⟩, H1, HO, Hk⟩
  iapply (agWaits I n c l (by omega) (dues (rsDue l c) ls K) (above_dues (above_rs l hl c) hK ls) _ Q ls h0)
  isplitr; · iexact HC
  isplitl [Ha Hc]
  · isplitl [Ha] <;> iassumption
  isplitl [HO]; · iexact HO
  iintro ⟨⟨⟨Ha, Hra⟩, HX, Hg⟩, HO⟩
  iapply (hmid _ Q)
  isplitl [H1]; · iexact H1
  isplitl [HX]; · iexact HX
  isplitl [Hp]; · iexact Hp
  iintro ⟨H2, HX, Hp⟩
  iapply (rsSends I n c l hl dev hdev K k Q ls h0)
  isplitr; · iexact HC
  isplitl [Hp Hg Hx Ht Hr]
  · isplitl [Hp]; · iexact Hp
    isplitl [Hg]; · iexact Hg
    isplitl [Hx]; · iexact Hx
    isplitl [Ht]; · iexact Ht
    iexact Hr
  isplitl [HO]; · iexact HO
  iintro ⟨Hc, HO⟩
  iapply Hk
  isplitl [Ha Hra HX Hc]
  · isplitl [Ha]; · iexact Ha
    isplitl [Hra]; · iexact Hra
    isplitl [HX]; · iexact HX
    iexact Hc
  isplitl [H2]; · iexact H2
  iexact HO

/-- The products of a group without the own slot. -/
theorem mid_other (l : ℕ) (g : Fin 4) (hg : g ≠ 0) (k : P F) (Q : PUnit → sProp 𝕄) :
    iprop(emp ∗ (bigSepL (grp g) fun s => Xp c (par l) s fullShare (XF (act I l) c)) ∗ bigSepL (grp g) (Pany c)
        ∗ (emp ∗ (bigSepL (grp g) fun s => Xp c (par l) s fullShare (XF (act I l) c)) ∗ (bigSepL (grp g) fun s => Pp c s (prod I l c)) -∗ WP c k Q))
      ⊢ WP c (products (par l) (k0_pay2 (I.w1 l c)) (k0_pay3 (I.w2 l c)) g k) Q := by
  have h := step_products c Q (par l) (k0_pay2 (I.w1 l c)) (k0_pay3 (I.w2 l c)) g fullShare (XF (act I l) c) k
  rw [quad_eq g hg] at h
  iintro ⟨-, HX, HP, Hk⟩
  iapply h
  isplitl [HX]; · iexact HX
  isplitl [HP]; · iexact HP
  iintro ⟨HX, HP⟩
  iapply Hk
  isplitr; · iempintro
  isplitl [HX]; · iexact HX
  iexact HP

/-- The products of the own slot's group, and the own product's copy. -/
theorem mid_own (l : ℕ) (k : P F) (Q : PUnit → sProp 𝕄) :
    iprop((Xp c (par l) 0 (leaf 4 fullShare 0) (XF (act I l) c) ∗ Pany c 0 ∗ Rany c (par l) 0)
        ∗ (bigSepL (grp 0) fun s => Xp c (par l) s fullShare (XF (act I l) c)) ∗ bigSepL (grp 0) (Pany c)
        ∗ ((Xp c (par l) 0 (leaf 4 fullShare 0) (XF (act I l) c) ∗ Pp c 0 (prod I l c) ∗ Rp c (par l) 0 (RF (prod I l) c))
            ∗ (bigSepL (grp 0) fun s => Xp c (par l) s fullShare (XF (act I l) c)) ∗ (bigSepL (grp 0) fun s => Pp c s (prod I l c)) -∗ WP c k Q))
      ⊢ WP c (products (par l) (k0_pay2 (I.w1 l c)) (k0_pay3 (I.w2 l c)) 0 <| ownProduct (par l) k) Q := by
  have h := step_products c Q (par l) (k0_pay2 (I.w1 l c)) (k0_pay3 (I.w2 l c)) 0 (leaf 4 fullShare 0) (XF (act I l) c) (ownProduct (par l) k)
  rw [quad_zero, bigSepL_cons', bigSepL_cons', bigSepL_cons'] at h
  have hs : (bigSepL (grp 0) fun s => Xp c (par l) s fullShare (XF (act I l) c))
      = iprop((bigSepL (grp 0) fun s => Xp c (par l) s (leaf 4 fullShare 0) (XF (act I l) c))
        ∗ bigSepL (grp 0) fun s => bigSepL peers fun i => Xp c (par l) s (leaf 4 fullShare i) (XF (act I l) c)) := by
    rw [← sepL_sep]
    exact congrArg (bigSepL (grp 0)) (funext fun s => leaves_x c (par l) s (XF (act I l) c))
  rw [hs]
  iintro ⟨⟨Hx, Hp, Hr⟩, ⟨HX, HX'⟩, HP, Hk⟩
  iapply h
  isplitl [Hx HX]
  · isplitl [Hx] <;> iassumption
  isplitl [Hp HP]
  · isplitl [Hp] <;> iassumption
  iintro ⟨⟨Hx, HX⟩, Hp, HP⟩
  iapply (step_ownProduct c Q (par l) (prod I l) k)
  isplitl [Hp]; · iexact Hp
  isplitl [Hr]; · iexact Hr
  iintro ⟨Hp, Hr⟩
  iapply Hk
  isplitl [Hx Hp Hr]
  · isplitl [Hx]; · iexact Hx
    isplitl [Hp] <;> iassumption
  isplitl [HX HX']
  · isplitl [HX] <;> iassumption
  iexact HP

/-- The four groups of a layer. -/
theorem groups (l : ℕ) (hl : l ≤ 2) (dev : Fin 16 → Dev nD) (hdev : ∀ s, s ≠ 0 → dev s = dn c s)
    (K : Tal) (hK : Above (agIx l) K) (k : P F) (Q : PUnit → sProp 𝕄) :
    iprop(Ctx I n ∗ bigSepL peers (grpIn c l) ∗ (Xp c (par l) 0 (leaf 4 fullShare 0) (XF (act I l) c) ∗ Pany c 0 ∗ Rany c (par l) 0)
        ∗ owesE c (dues (rsDue l c) peers K)
        ∗ (bigSepL peers (grpOut I c l) ∗ (Xp c (par l) 0 (leaf 4 fullShare 0) (XF (act I l) c) ∗ Pp c 0 (prod I l c) ∗ Rp c (par l) 0 (RF (prod I l) c)) ∗ owesE c K -∗ WP c k Q))
      ⊢ WP c (each (grp 0) (agWait (par l)) <| products (par l) (k0_pay2 (I.w1 l c)) (k0_pay3 (I.w2 l c)) 0 <| ownProduct (par l) <| each (grp 0) (fun s => rsSend (par l) (dev s) s) <|
          each (grp 1) (agWait (par l)) <| products (par l) (k0_pay2 (I.w1 l c)) (k0_pay3 (I.w2 l c)) 1 <| each (grp 1) (fun s => rsSend (par l) (dev s) s) <|
          each (grp 2) (agWait (par l)) <| products (par l) (k0_pay2 (I.w1 l c)) (k0_pay3 (I.w2 l c)) 2 <| each (grp 2) (fun s => rsSend (par l) (dev s) s) <|
          each (grp 3) (agWait (par l)) <| products (par l) (k0_pay2 (I.w1 l c)) (k0_pay3 (I.w2 l c)) 3 <| each (grp 3) (fun s => rsSend (par l) (dev s) s) k) Q := by
  rw [peers_grp, peers_grp, show dues (rsDue l c) peers K = dues (rsDue l c) (grp 0) (dues (rsDue l c) (grp 1) (dues (rsDue l c) (grp 2) (dues (rsDue l c) (grp 3) K))) from rfl]
  have ha : ∀ ls K, Above (agIx l) K → Above (agIx l) (dues (rsDue l c) ls K) := fun ls K hK => above_dues (above_rs l hl c) hK ls
  iintro ⟨#HC, ⟨H0, H1, H2, H3⟩, HR, HO, Hk⟩
  iapply (group I n c l hl (grp 0) (grp_ne 0) dev hdev _ (ha _ _ (ha _ _ (ha _ _ hK))) (fun k => products (par l) (k0_pay2 (I.w1 l c)) (k0_pay3 (I.w2 l c)) 0 <| ownProduct (par l) k)
    _ _ (mid_own I c l) _ Q)
  isplitr; · iexact HC
  isplitl [H0]; · iexact H0
  isplitl [HR]; · iexact HR
  isplitl [HO]; · iexact HO
  iintro ⟨H0, HR, HO⟩
  iapply (group I n c l hl (grp 1) (grp_ne 1) dev hdev _ (ha _ _ (ha _ _ hK)) (products (par l) (k0_pay2 (I.w1 l c)) (k0_pay3 (I.w2 l c)) 1) _ _ (mid_other I c l 1 (by decide)) _ Q)
  isplitr; · iexact HC
  isplitl [H1]; · iexact H1
  isplitr; · iempintro
  isplitl [HO]; · iexact HO
  iintro ⟨H1, -, HO⟩
  iapply (group I n c l hl (grp 2) (grp_ne 2) dev hdev _ (ha _ _ hK) (products (par l) (k0_pay2 (I.w1 l c)) (k0_pay3 (I.w2 l c)) 2) _ _ (mid_other I c l 2 (by decide)) _ Q)
  isplitr; · iexact HC
  isplitl [H2]; · iexact H2
  isplitr; · iempintro
  isplitl [HO]; · iexact HO
  iintro ⟨H2, -, HO⟩
  iapply (group I n c l hl (grp 3) (grp_ne 3) dev hdev _ hK (products (par l) (k0_pay2 (I.w1 l c)) (k0_pay3 (I.w2 l c)) 3) _ _ (mid_other I c l 3 (by decide)) _ Q)
  isplitr; · iexact HC
  isplitl [H3]; · iexact H3
  isplitr; · iempintro
  isplitl [HO]; · iexact HO
  iintro ⟨H3, -, HO⟩
  iapply Hk
  isplitl [H0 H1 H2 H3]
  · isplitl [H0]; · iexact H0
    isplitl [H1]; · iexact H1
    isplitl [H2] <;> iassumption
  isplitl [HR]; · iexact HR
  iexact HO

end

end Cert.KernelIdeal.Hand
-- ==== Proof.Ideal.Layer.lean ====
/- One layer of the kernel: from the state before it to the state before the next. -/
module

public import proofs.«01_k».proof.Proof.Ideal.Group

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf)

variable {F : FTy → Type} [FloatOps F]

local notation "𝕄" => MT nD τ sig ℕ (Elt F) ℕ UU ℕ

section
variable (I : Inputs F) (n : Dev nD × Key → ℕ) (c : Dev nD)

/-- Device `c`'s positions on all entries of buffer `par l`, and the rounds reached there. -/
def PosQ (l : ℕ) : sProp 𝕄 := iprop(bigSepL peers (pAt c 0 l) ∗ bigSepL peers (pAt c 1 l) ∗ bigSepL peers (pAt c 2 l) ∗ bigSepL peers (pAt c 3 l))
def RchQ (l : ℕ) : sProp 𝕄 := iprop(bigSepL peers (rch c 0 l) ∗ bigSepL peers (rch c 1 l) ∗ bigSepL peers (rch c 2 l) ∗ bigSepL peers (rch c 3 l))

/-- The buffers between two layers: the own block of layer `l`, a share of it out in the all-gather's sends; the other buffer of
    `xfull` and `p_stage` empty; of `rs_buf` the slots that are not given away. -/
def Bufs (l : ℕ) : sProp 𝕄 :=
  iprop(Xp c (par l) 0 (leaf 4 fullShare 0) (XF (act I l) c) ∗ bigSepL peers (crd c 0 l 0)
    ∗ (Xany c (par (l + 1)) 0 ∗ bigSepL peers (Xany c (par (l + 1)))) ∗ (Pany c 0 ∗ bigSepL peers (Pany c))
    ∗ (Rany c (par l) 0 ∗ bigSepL peers (keepR c l)) ∗ Rany c (par (l + 1)) 0 ∗ bigSepL peers (Rany c (par (l + 1))))

/-- The state of device `c` before layer `l`. -/
def State (l : ℕ) : sProp 𝕄 := iprop(PosQ c l ∗ PosQ c (l + 1) ∗ RchQ c l ∗ RchQ c (l + 1) ∗ Bufs I c l)

/-- The tokens and credits of layer `l`'s own rounds and of the next all-gather's sends. -/
def Toks (l : ℕ) : sProp 𝕄 :=
  iprop(bigSepL peers (crd c 1 l (agIx l)) ∗ bigSepL peers (tokR c l) ∗ bigSepL peers (crd c 3 l (rsIx l)) ∗ bigSepL peers (tokA c (l + 1)))

theorem xany_of (b : Fin 2) (s : Fin 16) (f : CX F) : Xp c b s fullShare f ⊢ Xany c b s := by
  unfold Xany; iintro H; iexists f; iexact H
theorem pany_of (s : Fin 16) (f : CP F) : Pp c s f ⊢ Pany c s := by
  unfold Pany; iintro H; iexists f; iexact H
theorem rany_of (b : Fin 2) (s : Fin 16) (f : CR F) : Rp c b s f ⊢ Rany c b s := by
  unfold Rany; iintro H; iexists f; iexact H

/-- The dues of a layer before `K`. -/
abbrev layerDues (l : ℕ) (K : Tal) : Tal := dues (rsDue l c) peers (dues (agDue (l + 1) c) peers K)

/-- The groups of a layer over its whole state. -/
theorem state_groups (l : ℕ) (hl : l ≤ 2) :
    iprop(bigSepL peers (pAt c 1 l) ∗ bigSepL peers (crd c 1 l (agIx l)) ∗ bigSepL peers (Pany c) ∗ bigSepL peers (Xany c (par (l + 1)))
        ∗ bigSepL peers (tokR c l) ∗ bigSepL peers (rch c 2 l) ∗ bigSepL peers (rch c 1 (l + 1)))
      ⊢ bigSepL peers (grpIn (F := F) c l) := by
  rw [show grpIn (F := F) c l = fun s => iprop(pAt c 1 l s ∗ crd c 1 l (agIx l) s ∗ Pany c s ∗ (Xany c (par (l + 1)) s ∗ rch c 1 (l + 1) s) ∗ tokR c l s ∗ rch c 2 l s) from rfl]
  simp only [sepL_sep]
  iintro ⟨H1, H2, H3, H4, H5, H6, H7⟩
  isplitl [H1]; · iexact H1
  isplitl [H2]; · iexact H2
  isplitl [H3]; · iexact H3
  isplitl [H4 H7]
  · isplitl [H4]; · iexact H4
    iexact H7
  isplitl [H5]; · iexact H5
  iexact H6

theorem grpOut_eq (l : ℕ) : bigSepL peers (grpOut I c l)
    = iprop(bigSepL peers (pAt c 1 (l + 2)) ∗ bigSepL peers (rch c 1 (l + 2)) ∗ (bigSepL peers fun s => Xp c (par l) s fullShare (XF (act I l) c)) ∗ bigSepL peers (crd c 2 l 0)) := by
  rw [show grpOut I c l = fun s => iprop(pAt c 1 (l + 2) s ∗ rch c 1 (l + 2) s ∗ Xp c (par l) s fullShare (XF (act I l) c) ∗ crd c 2 l 0 s) from rfl]
  simp only [sepL_sep]

/-- The given slots of `rs_buf` and those that stay, over all slots. -/
theorem grants_keep (l : ℕ) : iprop(bigSepL peers (Rany c (par l)) ∗ bigSepL peers (rch c 3 l))
    ⊢ iprop((bigSepL peers fun s => agGrant (F := F) l c s) ∗ bigSepL peers (keepR c l)) := by
  rw [← sepL_sep, ← sepL_sep]
  exact bigSepL_mono fun s _ => grant_keep c l s

/-- One layer. -/
theorem layer_spec (l : ℕ) (hl : l ≤ 2) (b b' : Fin 2) (hb : b = par l) (hb' : b' = par (l + 1))
    (w1M : Memref sig .tc .vmem S128x256 .bf16) (w2M : Memref sig .tc .vmem S256x128 .bf16) (rsDev agDev : Fin 16 → Dev nD)
    (hrs : ∀ s, s ≠ 0 → rsDev s = dn c s) (hag : ∀ s, s ≠ 0 → agDev s = up c s)
    (f1 : Buf (Elt F) (w1M.view.loc (c : Thread nD τ))) (f2 : Buf (Elt F) (w2M.view.loc (c : Thread nD τ)))
    (h1 : w1M.view.readAt (Elt F) (Rect.unit (s := S128x256) ![0, 0] S128x256.size inb_S128x256_S128x256_0_0).toLoadRect f1 = I.w1 l c)
    (h2 : w2M.view.readAt (Elt F) (Rect.unit (s := S256x128) ![0, 0] S256x128.size inb_S256x128_S256x128_0_0).toLoadRect f2 = I.w2 l c)
    (K : Tal) (hK : Above (rsIx l) K) (k : P F) (Q : PUnit → sProp 𝕄) :
    iprop(Ctx I n ∗ State I c l ∗ Toks c l ∗ ((w1M.view.loc (c : Thread nD τ) ↦{fullShare} f1) ∗ (w2M.view.loc (c : Thread nD τ) ↦{fullShare} f2))
        ∗ owesE c (layerDues c l K)
        ∗ (State I c (l + 1) ∗ ((w1M.view.loc (c : Thread nD τ) ↦{fullShare} f1) ∗ (w2M.view.loc (c : Thread nD τ) ↦{fullShare} f2)) ∗ owesE c K -∗ WP c k Q))
      ⊢ WP c (layer b b' w1M w2M rsDev agDev k) Q := by
  subst hb hb'
  have hKa : Above (rsIx l) (dues (agDue (l + 1) c) peers K) := above_dues (fun s => (above_ag (l + 1) (by omega) c s).mono (by unfold rsIx; omega)) hK _
  unfold State Bufs Toks PosQ RchQ
  iintro ⟨#HC, ⟨⟨Ha0, Ha1, Ha2, Ha3⟩, HQ', ⟨#R0, #R1, #R2, #R3⟩, ⟨#S0, #S1, #S2, #S3⟩, Hx0, Hs0, ⟨HX0, HX⟩, ⟨HP0, HP⟩, ⟨HR0, -⟩, HRn0, HRn⟩, ⟨Hc1, HtR, Hc3, HtA⟩, ⟨Hw1, Hw2⟩, HO, Hk⟩
  iapply (wp_load 𝒱₀ (c : Thread nD τ) none Set.univ (m := w1M) (Finset.subset_univ _)) $$ Hw1; iintro Hw1
  iapply (wp_load 𝒱₀ (c : Thread nD τ) none Set.univ (m := w2M) (Finset.subset_univ _)) $$ Hw2; iintro Hw2
  rw [h1, h2]
  iapply (groups I n c l hl rsDev hrs (dues (agDue (l + 1) c) peers K) (hKa.mono (by unfold rsIx agIx; omega)) _ Q)
  isplitr; · iexact HC
  isplitl [Ha1 Hc1 HP HX HtR]
  · iapply (state_groups c l hl)
    isplitl [Ha1]; · iexact Ha1
    isplitl [Hc1]; · iexact Hc1
    isplitl [HP]; · iexact HP
    isplitl [HX]; · iexact HX
    isplitl [HtR]; · iexact HtR
    isplitr; · iexact R2
    iexact S1
  isplitl [Hx0 HP0 HR0]
  · isplitl [Hx0]; · iexact Hx0
    isplitl [HP0] <;> iassumption
  isplitl [HO]; · iexact HO
  rw [grpOut_eq]
  iintro ⟨⟨Ha1, #T1, HX, Hc2⟩, ⟨Hx0, HP0, HR0⟩, HO⟩
  iapply (rsWaits I n c l hl _ hKa _ Q peers peers_ne)
  isplitr; · iexact HC
  isplitl [Ha3 Hc3]
  · isplitl [Ha3] <;> iassumption
  isplitl [HO]; · iexact HO
  iintro ⟨⟨⟨Ha3, #T3⟩, HR, Hg⟩, HO⟩
  iapply (step_reduce c Q (par l) (par (l + 1)) (prod I l) (act I (l + 1)) (act_succ I l c) _)
  isplitl [HR0 HR]
  · rw [univ_peers]
    isplitl [HR0] <;> iassumption
  isplitl [HX0]; · iexact HX0
  rw [univ_peers, leaves_x]
  iintro ⟨⟨HR0, HR⟩, Hy0, Hy⟩
  ihave HRn := (grants_keep c (l + 1)) $$ [HRn]
  · isplitl [HRn]; · iexact HRn
    iexact S3
  icases HRn with ⟨HRg, HRk⟩
  iapply (agSends I n c (l + 1) (by omega) agDev hag K _ Q peers peers_ne)
  isplitr; · iexact HC
  isplitl [Hy Hg HRg HtA]
  · isplitl [Hy]; · iexact Hy
    isplitl [Hg]; · iexact Hg
    isplitl [HRg]; · iexact HRg
    isplitl [HtA]; · iexact HtA
    iexact S0
  isplitl [HO]; · iexact HO
  iintro ⟨Hs1, HO⟩
  iapply (agSents I n c l (by omega) K (hK.mono (by omega)) _ Q peers peers_ne)
  isplitr; · iexact HC
  isplitl [Ha0 Hs0]
  · isplitl [Ha0] <;> iassumption
  isplitl [HO]; · iexact HO
  iintro ⟨⟨⟨Ha0, #T0⟩, Hx⟩, HO⟩
  iapply (rsSents I n c l hl K (hK.mono (by omega)) _ Q peers peers_ne)
  isplitr; · iexact HC
  isplitl [Ha2 Hc2]
  · isplitl [Ha2] <;> iassumption
  isplitl [HO]; · iexact HO
  iintro ⟨⟨⟨Ha2, #T2⟩, HP⟩, HO⟩
  iapply Hk
  isplitr [Hw1 Hw2 HO]
  · isplitl [HQ']; · iexact HQ'
    isplitl [Ha0 Ha1 Ha2 Ha3]
    · isplitl [Ha0]; · iexact Ha0
      isplitl [Ha1]; · iexact Ha1
      isplitl [Ha2]; · iexact Ha2
      iexact Ha3
    isplitr
    · isplitr; · iexact S0
      isplitr; · iexact S1
      isplitr; · iexact S2
      iexact S3
    isplitr
    · isplitr; · iexact T0
      isplitr; · iexact T1
      isplitr; · iexact T2
      iexact T3
    isplitl [Hy0]; · iexact Hy0
    isplitl [Hs1]; · iexact Hs1
    rw [show par (l + 1 + 1) = par l from par_next l]
    isplitl [Hx0 Hx HX]
    · isplitl [Hx0 Hx]
      · iapply (xany_of c (par l) 0 (XF (act I l) c))
        rw [leaves_x]
        isplitl [Hx0] <;> iassumption
      · iapply (bigSepL_mono fun s _ => xany_of c (par l) s (XF (act I l) c)) $$ HX
    isplitl [HP0 HP]
    · isplitl [HP0]
      · iapply (pany_of c 0 (prod I l c)) $$ HP0
      · iapply (bigSepL_mono fun s _ => pany_of c s (prod I l c)) $$ HP
    isplitl [HRn0 HRk]
    · isplitl [HRn0]; · iexact HRn0
      iexact HRk
    isplitl [HR0]
    · iapply (rany_of c (par l) 0 (RF (prod I l) c)) $$ HR0
    · iapply (bigSepL_mono fun s _ => rany_of c (par l) s (RF (prod I l) c)) $$ HR
  isplitl [Hw1 Hw2]
  · isplitl [Hw1] <;> iassumption
  iexact HO

end

end Cert.KernelIdeal.Hand
-- ==== Proof.Ideal.Ends.lean ====
/- The two ends of the kernel: its scratch buffers and its cells as one piece and in parts, and the last all-gather. -/
module

public import proofs.«01_k».proof.Proof.Ideal.Layer

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf)

variable {F : FTy → Type} [FloatOps F]

local notation "𝕄" => MT nD τ sig ℕ (Elt F) ℕ UU ℕ

section
variable (I : Inputs F) (n : Dev nD × Key → ℕ) (c : Dev nD)

/-! ## The scratch buffers, whole and slot by slot -/

/-- Parts of a buffer, each with some contents, are the buffer with some contents. -/
theorem whole_of {T : Type} [Fintype T] [DecidableEq T] {ℓ : Loc nD τ sig} (K : T → Finset (Idx ℓ)) (f₀ : Buf (Elt F) ℓ)
    (hd : ∀ t ∈ (Finset.univ : Finset T), ∀ t' ∈ (Finset.univ : Finset T), t ≠ t' → Disjoint (K t) (K t')) (hc : Finset.univ.biUnion K = Finset.univ) :
    (bigSep Finset.univ fun t => (iprop(∃ f : Buf (Elt F) ℓ, ℓ ↦[K t]{fullShare} f) : sProp 𝕄)) ⊢ iprop(∃ f : Buf (Elt F) ℓ, ℓ ↦{fullShare} f) := by
  haveI : Nonempty (Buf (Elt F) ℓ) := ⟨f₀⟩
  iintro H
  ihave H := (Idealize.SL.BI.bigSep_exists_pi (Y := fun _ : T => Buf (Elt F) ℓ) Finset.univ fun (t : T) (f : Buf (Elt F) ℓ) => (ℓ ↦[K t]{fullShare} f : sProp 𝕄)) $$ H
  icases H with ⟨%fs, H⟩
  ihave H := (pointsTo_biUnion_join (Ix := ℕ) (Val := Elt F) (Name := ℕ) (Lvl := ℕ) (U := UU) (q := fullShare) Finset.univ K fs f₀ hd) $$ H
  icases H with ⟨%f, -, H⟩
  rw [hc]
  iexists f
  iexact H

theorem disj_x2 : ∀ t ∈ (Finset.univ : Finset (Fin 2 × Fin 16)), ∀ t' ∈ (Finset.univ : Finset (Fin 2 × Fin 16)), t ≠ t' → Disjoint (xS t.1 t.2).view.set (xS t'.1 t'.2).view.set :=
  fun t _ t' _ h => disj_xS _ _ _ _ h
theorem disj_r2 : ∀ t ∈ (Finset.univ : Finset (Fin 2 × Fin 16)), ∀ t' ∈ (Finset.univ : Finset (Fin 2 × Fin 16)), t ≠ t' → Disjoint (rS t.1 t.2).view.set (rS t'.1 t'.2).view.set :=
  fun t _ t' _ h => disj_rS _ _ _ _ h
theorem disj_p1 : ∀ t ∈ (Finset.univ : Finset (Fin 16)), ∀ t' ∈ (Finset.univ : Finset (Fin 16)), t ≠ t' → Disjoint (pS t).view.set (pS t').view.set :=
  fun t _ t' _ h => disj_pS _ _ h

/-- The three scratch buffers, whole. -/
def Scr : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))
/-- Their slots. -/
def Slots : sProp 𝕄 :=
  iprop(((Xany c 0 0 ∗ bigSepL peers (Xany c 0)) ∗ (Xany c 1 0 ∗ bigSepL peers (Xany c 1))) ∗ (Pany c 0 ∗ bigSepL peers (Pany c))
    ∗ (Rany c 0 0 ∗ bigSepL peers (Rany c 0)) ∗ (Rany c 1 0 ∗ bigSepL peers (Rany c 1)))

theorem two_peers (Φ : Fin 2 → Fin 16 → sProp 𝕄) : (bigSep Finset.univ fun k : Fin 2 × Fin 16 => Φ k.1 k.2)
    = iprop((Φ 0 0 ∗ bigSepL peers (Φ 0)) ∗ (Φ 1 0 ∗ bigSepL peers (Φ 1))) := by
  rw [bigSep_univ_prod, Idealize.SL.BI.bigSep_fin_two, univ_peers, univ_peers]
  rfl

theorem scr_open : Scr (F := F) c ⊢ Slots c := by
  unfold Scr Slots
  rw [← two_peers (Xany c), ← two_peers (Rany c), ← univ_peers (Pany c)]
  have hx : ∀ f : Buf (Elt F) ((c : Thread nD τ).loc cc0_scratch0), (((c : Thread nD τ).loc cc0_scratch0) ↦{fullShare} f : sProp 𝕄)
      ⊢ bigSep Finset.univ fun k : Fin 2 × Fin 16 => Xany c k.1 k.2 := by
    intro f
    rw [← cover_x, pointsTo_biUnion _ _ disj_x2]
    exact bigSep_mono fun k _ => xany_of c k.1 k.2 f
  have hp : ∀ f : Buf (Elt F) ((c : Thread nD τ).loc cc0_scratch1), (((c : Thread nD τ).loc cc0_scratch1) ↦{fullShare} f : sProp 𝕄)
      ⊢ bigSep Finset.univ (Pany c) := by
    intro f
    rw [← cover_p, pointsTo_biUnion _ _ disj_p1]
    exact bigSep_mono fun k _ => pany_of c k f
  have hr : ∀ f : Buf (Elt F) ((c : Thread nD τ).loc cc0_scratch2), (((c : Thread nD τ).loc cc0_scratch2) ↦{fullShare} f : sProp 𝕄)
      ⊢ bigSep Finset.univ fun k : Fin 2 × Fin 16 => Rany c k.1 k.2 := by
    intro f
    rw [← cover_r, pointsTo_biUnion _ _ disj_r2]
    exact bigSep_mono fun k _ => rany_of c k.1 k.2 f
  iintro ⟨⟨%fx, Hx⟩, ⟨%fp, Hp⟩, ⟨%fr, Hr⟩⟩
  isplitl [Hx]; · iapply (hx fx) $$ Hx
  isplitl [Hp]; · iapply (hp fp) $$ Hp
  iapply (hr fr) $$ Hr

theorem scr_close : Slots (F := F) c ⊢ Scr c := by
  unfold Scr Slots
  rw [← two_peers (Xany c), ← two_peers (Rany c), ← univ_peers (Pany c)]
  iintro ⟨Hx, Hp, Hr⟩
  isplitl [Hx]
  · iapply (show (bigSep Finset.univ fun k : Fin 2 × Fin 16 => Xany (F := F) c k.1 k.2) ⊢ _ from whole_of (ℓ := (c : Thread nD τ).loc cc0_scratch0) (fun k : Fin 2 × Fin 16 => (xS k.1 k.2).view.set) (fun _ => FloatOps.ofBits .bf16 0 : CX F) disj_x2 cover_x) $$ Hx
  isplitl [Hp]
  · iapply (show bigSep Finset.univ (Pany (F := F) c) ⊢ _ from whole_of (ℓ := (c : Thread nD τ).loc cc0_scratch1) (fun k : Fin 16 => (pS k).view.set) (zeroP : CP F) disj_p1 cover_p) $$ Hp
  · iapply (show (bigSep Finset.univ fun k : Fin 2 × Fin 16 => Rany (F := F) c k.1 k.2) ⊢ _ from whole_of (ℓ := (c : Thread nD τ).loc cc0_scratch2) (fun k : Fin 2 × Fin 16 => (rS k.1 k.2).view.set) (fun _ => FloatOps.ofBits .bf16 0 : CR F) disj_r2 cover_r) $$ Hr

/-- The slots in the order in which the entry's signals hand them over. -/
theorem peers_neg (Φ : Fin 16 → sProp 𝕄) : iprop(Φ 0 ∗ bigSepL peers Φ) = iprop(Φ 0 ∗ bigSepL peers fun s => Φ (-s)) := by
  rw [← univ_peers, bigSep_univ_equiv (Equiv.neg (Fin 16)) Φ, univ_peers]
  rfl

/-! ## The positions -/

/-- Device `c`'s positions on its cells, at round `R k` of cell `k`. -/
def AllPos (R : Key → ℕ) : sProp 𝕄 := bigSep Finset.univ fun k => atPos ER (kcell (c, k)) (R k) ∅ 0
/-- The round of every cell after the run. -/
def endR : Key → ℕ
  | none => 1
  | some (a, b, s) => if s = 0 then 0 else if a.val < 2 ∨ b = 0 then 2 else 1

/-- A family over the cells. -/
theorem keys_eq (Φ : Key → sProp 𝕄) : bigSep Finset.univ Φ
    = iprop(Φ none ∗ bigSep Finset.univ fun ab : Fin 4 × Fin 2 => iprop(Φ (some (ab.1, ab.2, 0)) ∗ bigSepL peers fun s => Φ (some (ab.1, ab.2, s)))) := by
  have h : (Finset.univ : Finset Key) = insert none (Finset.univ.map Function.Embedding.some) := rfl
  rw [h, bigSep_insert (by simp), bigSep_map]
  show iprop(Φ none ∗ bigSep Finset.univ fun q : Fin 4 × Fin 2 × Fin 16 => Φ (some q)) = _
  rw [bigSep_univ_equiv (Equiv.prodAssoc (Fin 4) (Fin 2) (Fin 16)), bigSep_univ_prod]
  refine congrArg (fun X => iprop(Φ none ∗ X)) (bigSep_congr fun ab _ => ?_)
  exact univ_peers fun s => Φ (some (ab.1, ab.2, s))

/-- The cells of slot 0, which nothing uses. -/
def Zero : sProp 𝕄 := bigSep Finset.univ fun ab : Fin 4 × Fin 2 => atPos ER (kcell (c, some (ab.1, ab.2, 0))) 0 ∅ 0

theorem eight (Ψ : Fin 4 × Fin 2 → sProp 𝕄) : bigSep Finset.univ Ψ
    = iprop(Ψ (0, 0) ∗ Ψ (1, 0) ∗ Ψ (2, 0) ∗ Ψ (3, 0) ∗ Ψ (0, 1) ∗ Ψ (1, 1) ∗ Ψ (2, 1) ∗ Ψ (3, 1)) :=
  bigSep_univ_eq_bigSepL [(0, 0), (1, 0), (2, 0), (3, 0), (0, 1), (1, 1), (2, 1), (3, 1)] (by decide) (by decide) Ψ

theorem pos_open : AllPos (F := F) c (fun _ => 0) ⊢ iprop(atPos ER (bar c) 0 ∅ 0 ∗ Zero c ∗ PosQ c 0 ∗ PosQ c 1) := by
  unfold AllPos Zero PosQ
  rw [keys_eq, bigSep_sep', eight (fun ab => bigSepL peers fun s => atPos ER (kcell (c, some (ab.1, ab.2, s))) 0 ∅ 0)]
  iintro ⟨Hb, Hz, H00, H10, H20, H30, H01, H11, H21, H31⟩
  isplitl [Hb]; · iexact Hb
  isplitl [Hz]; · iexact Hz
  isplitl [H00 H10 H20 H30]
  · isplitl [H00]; · iexact H00
    isplitl [H10]; · iexact H10
    isplitl [H20]; · iexact H20
    iexact H30
  · isplitl [H01]; · iexact H01
    isplitl [H11]; · iexact H11
    isplitl [H21]; · iexact H21
    iexact H31

theorem end_peers (a : Fin 4) (b : Fin 2) (l : ℕ) (hb : par l = b) (hr : l / 2 = if a.val < 2 ∨ b = 0 then 2 else 1) :
    bigSepL peers (pAt (F := F) c a l) ⊢ bigSepL peers fun s => atPos ER (kcell (c, some (a, b, s))) (endR (some (a, b, s))) ∅ 0 := by
  subst hb
  refine bigSepL_mono fun s hs => ?_
  unfold pAt
  show _ ⊢ atPos ER (kcell (c, some (a, par l, s))) (if s = 0 then 0 else if a.val < 2 ∨ par l = 0 then 2 else 1) ∅ 0
  rw [if_neg (peers_ne s hs), ← hr]

theorem pos_close : iprop(atPos ER (bar c) 1 ∅ 0 ∗ Zero c ∗ PosQ c 4
      ∗ bigSepL peers (pAt c 0 5) ∗ bigSepL peers (pAt c 1 5) ∗ bigSepL peers (pAt c 2 3) ∗ bigSepL peers (pAt c 3 3)) ⊢ AllPos (F := F) c endR := by
  unfold AllPos Zero PosQ
  rw [keys_eq, bigSep_sep', eight (fun ab => bigSepL peers fun s => atPos ER (kcell (c, some (ab.1, ab.2, s))) (endR (some (ab.1, ab.2, s))) ∅ 0)]
  iintro ⟨Hb, Hz, ⟨H00, H10, H20, H30⟩, H01, H11, H21, H31⟩
  isplitl [Hb]; · iexact Hb
  isplitl [Hz]; · iexact Hz
  isplitl [H00]; · iapply (end_peers c 0 0 4 (by decide) (by decide)) $$ H00
  isplitl [H10]; · iapply (end_peers c 1 0 4 (by decide) (by decide)) $$ H10
  isplitl [H20]; · iapply (end_peers c 2 0 4 (by decide) (by decide)) $$ H20
  isplitl [H30]; · iapply (end_peers c 3 0 4 (by decide) (by decide)) $$ H30
  isplitl [H01]; · iapply (end_peers c 0 1 5 (by decide) (by decide)) $$ H01
  isplitl [H11]; · iapply (end_peers c 1 1 5 (by decide) (by decide)) $$ H11
  isplitl [H21]; · iapply (end_peers c 2 1 3 (by decide) (by decide)) $$ H21
  iapply (end_peers c 3 1 3 (by decide) (by decide)) $$ H31

/-- After its last round a cell has no duties. -/
theorem no_duties (k : Key) (r : ℕ) (hr : endR k ≤ r) : (Rd I).duties (kcell (c, k)) r = ∅ := by
  rw [duties_key]
  rcases k with _ | ⟨a, b, s⟩
  · exact if_neg (by show r ≠ 0; have : 1 ≤ r := hr; omega)
  · refine if_neg fun ⟨hs, hl⟩ => ?_
    have h : (if s = 0 then 0 else if a.val < 2 ∨ b = 0 then 2 else 1) ≤ r := hr
    rw [if_neg hs] at h
    have hb : b.val < 2 := b.isLt
    unfold Live lay at hl
    by_cases ha : a.val < 2
    · rw [if_pos (Or.inl ha)] at h; rw [if_pos ha] at hl; omega
    · rw [if_neg ha] at hl
      by_cases hb0 : b = 0
      · rw [if_pos (Or.inr hb0)] at h; omega
      · rw [if_neg (fun h' => h'.elim ha hb0)] at h
        have : b.val ≠ 0 := fun h' => hb0 (Fin.ext h')
        omega

/-- The cells of device `c` close, their counters at zero. -/
theorem close_all : iprop(Ctx I n ∗ AllPos c endR) ⊢ |={Set.univ}=> (bigSep Finset.univ fun k : Key => semVal (kcell (c, k)) 0 : sProp 𝕄) := by
  unfold AllPos
  refine (sep_mono_left (BI.bigSep_of_persistent (Finset.univ : Finset Key) (Ctx I n))).trans ?_
  rw [← bigSep_sep']
  refine (bigSep_mono fun k _ => ?_).trans (bigSep_fupd _ _)
  show iprop(Ctx I n ∗ atPos ER (kcell (c, k)) (endR k) ∅ 0) ⊢ |={Set.univ}=> (semVal (kcell (c, k)) 0 : sProp 𝕄)
  iintro ⟨#HC, Hat⟩
  ihave #Hinv := (ctx_inv I n (c, k)) $$ HC
  imod (Rounds.cell_close ER (Rd I) (Set.mem_univ (n (c, k))) (fun h => h) (R := endR k) (no_duties I c k)) $$ [Hat] with Hz
  · isplitr; · iexact Hinv
    iexact Hat
  imodintro
  iexact Hz

/-! ## The last all-gather -/

/-- The result's staging buffer. -/
abbrev out (f : CO F) : sProp 𝕄 := ((c : Thread nD τ).loc cc0_stg7_0) ↦{fullShare} f

/-- A block of the last all-gather arrives. -/
theorem last_wait (s : Fin 16) (hs : s ≠ 0) (k : P F) (Q : PUnit → sProp 𝕄) :
    iprop(Ctx I n ∗ (pAt c 1 3 s ∗ crd c 1 3 (agIx 3) s) ∗ owesE c 0
        ∗ (((pAt c 1 5 s ∗ rch c 1 5 s) ∗ Xp c 1 s fullShare (XF (act I 3) c) ∗ agGrant 3 (dn c s) s) ∗ owesE c 0 -∗ WP c k Q))
      ⊢ WP c (agWait 1 s k) Q :=
  step_wait I n c 1 3 (by decide) s hs (agIx 3) (by decide) 0 (above_zero _)
    (w := .waitDma2 (agRcv 1 s) (xS 1 0) (xS 1 s) (exactX 1 0) (exactX 1 s)) (wpE_waitDma2_eq 𝒱₀ (c : Thread nD τ) none Set.univ) k Q

/-- The blocks of a list arrive and are written to their rows; when the rows not among them hold the result already, all do. -/
theorem emits (k : P F) (Q : PUnit → sProp 𝕄) : ∀ (ls : List (Fin 16)), (∀ s ∈ ls, s ≠ 0) → ∀ (f : CO F),
    (∀ i : S2048x128.Idx, (∃ s ∈ ls, slotOf (i 0) = dn c s) ∨ f i = OF (act I 3) i) →
    iprop(Ctx I n ∗ (bigSepL ls (pAt c 1 3) ∗ bigSepL ls (crd c 1 3 (agIx 3))) ∗ owesE c 0 ∗ out c f
        ∗ (bigSepL ls (pAt c 1 5) ∗ (bigSepL ls fun s => Xp c 1 s fullShare (XF (act I 3) c)) ∗ owesE c 0 ∗ out c (OF (act I 3)) -∗ WP c k Q))
      ⊢ WP c (each ls (fun s k => agWait 1 s <| emit oM (offAt c s) (offAt_inb c s) s k) k) Q
  | [], _, f, hf => by
    have e : f = OF (act I 3) := funext fun i => (hf i).resolve_left fun ⟨s, h, _⟩ => absurd h List.not_mem_nil
    subst e
    iintro ⟨-, -, HO, Ho, Hk⟩
    iapply Hk
    isplitr; · rw [bigSepL_nil]; iempintro
    isplitr; · rw [bigSepL_nil]; iempintro
    isplitl [HO]; · iexact HO
    iexact Ho
  | s :: ls, h0, f, hf => by
    have hf' : ∀ i : S2048x128.Idx, (∃ s ∈ ls, slotOf (i 0) = dn c s) ∨ (if slotOf (i 0) = dn c s then OF (act I 3) i else f i) = OF (act I 3) i := by
      intro i
      by_cases h : slotOf (i 0) = dn c s
      · exact Or.inr (if_pos h)
      · rw [if_neg h]
        refine (hf i).imp_left fun ⟨s', hs', e⟩ => ⟨s', (List.mem_cons.mp hs').resolve_left fun e' => h (e' ▸ e), e⟩
    rw [bigSepL_cons', bigSepL_cons', bigSepL_cons', bigSepL_cons']
    iintro ⟨#HC, ⟨⟨Ha, Hl⟩, ⟨Hc, Hcl⟩⟩, HO, Ho, Hk⟩
    iapply (last_wait I n c s (h0 s List.mem_cons_self) _ Q)
    isplitr; · iexact HC
    isplitl [Ha Hc]
    · isplitl [Ha] <;> iassumption
    isplitl [HO]; · iexact HO
    iintro ⟨⟨⟨Ha, -⟩, Hx, -⟩, HO⟩
    iapply (step_emit c Q (act I 3) s fullShare f _)
    isplitl [Hx]; · iexact Hx
    isplitl [Ho]; · iexact Ho
    iintro ⟨Hx, Ho⟩
    iapply (emits k Q ls (fun s hs => h0 s (List.mem_cons_of_mem _ hs)) _ hf')
    isplitr; · iexact HC
    isplitl [Hl Hcl]
    · isplitl [Hl] <;> iassumption
    isplitl [HO]; · iexact HO
    isplitl [Ho]; · iexact Ho
    iintro ⟨Hl, HX, HO, Ho⟩
    iapply Hk
    isplitl [Ha Hl]
    · isplitl [Ha]; · iexact Ha
      iexact Hl
    isplitl [Hx HX]
    · isplitl [Hx] <;> iassumption
    isplitl [HO] <;> iassumption

end

end Cert.KernelIdeal.Hand
-- ==== Proof.Ideal.Body.lean ====
/- The kernel's body on one device, from entry to exit. -/
module

public import proofs.«01_k».proof.Proof.Ideal.Ends

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf)

variable {F : FTy → Type} [FloatOps F]

local notation "𝕄" => MT nD τ sig ℕ (Elt F) ℕ UU ℕ

section
variable (I : Inputs F) (n : Dev nD × Key → ℕ) (c : Dev nD)

/-- The tokens of everything that device `c` pays: its entry signals and its sends. -/
def tokB (s : Fin 16) : sProp 𝕄 := dutyTok ER (bar (up c s)) 0 (-s)
def AllToks : sProp 𝕄 :=
  iprop(bigSepL peers (tokB c) ∗ bigSepL peers (tokA c 0) ∗ bigSepL peers (tokR c 0) ∗ bigSepL peers (tokA c 1) ∗ bigSepL peers (tokR c 1)
    ∗ bigSepL peers (tokA c 2) ∗ bigSepL peers (tokR c 2) ∗ bigSepL peers (tokA c 3))
/-- The credits of everything that it waits for from other devices. -/
def AllCreds : sProp 𝕄 :=
  iprop(cred (tallyAt (bar c) 1 15) ∗ bigSepL peers (crd c 1 0 (agIx 0)) ∗ bigSepL peers (crd c 3 0 (rsIx 0)) ∗ bigSepL peers (crd c 1 1 (agIx 1))
    ∗ bigSepL peers (crd c 3 1 (rsIx 1)) ∗ bigSepL peers (crd c 1 2 (agIx 2)) ∗ bigSepL peers (crd c 3 2 (rsIx 2)) ∗ bigSepL peers (crd c 1 3 (agIx 3)))

/-- A window's staging buffer at contents `f`. -/
abbrev stg (b : Ref sig .tc) (f : Buf (Elt F) ((c : Thread nD τ).loc b)) : sProp 𝕄 := ((c : Thread nD τ).loc b) ↦{fullShare} f

/-- Round 0 is reached on all entries. -/
theorem ctx_rchQ0 : Ctx I n ⊢ RchQ c 0 := by
  have h : ∀ k : Fin 4, Ctx I n ⊢ bigSepL peers (rch c k 0) := fun k =>
    (show Ctx I n ⊢ bigSep Finset.univ fun s => rch c k 0 s from
      (BI.bigSep_of_persistent (Finset.univ : Finset (Fin 16)) (Ctx I n)).trans (bigSep_mono fun s _ => ctx_reached I n (c, some (k, 0, s)))).trans
      (by rw [univ_peers]; iintro ⟨-, H⟩; iexact H)
  unfold RchQ
  iintro #H
  isplitr; · iapply (h 0); iexact H
  isplitr; · iapply (h 1); iexact H
  isplitr; · iapply (h 2); iexact H
  iapply (h 3); iexact H
theorem ctx_rchQ1 : Ctx I n ⊢ RchQ c 1 := by
  have h : ∀ k : Fin 4, Ctx I n ⊢ bigSepL peers (rch c k 1) := fun k =>
    (show Ctx I n ⊢ bigSep Finset.univ fun s => rch c k 1 s from
      (BI.bigSep_of_persistent (Finset.univ : Finset (Fin 16)) (Ctx I n)).trans (bigSep_mono fun s _ => ctx_reached I n (c, some (k, 1, s)))).trans
      (by rw [univ_peers]; iintro ⟨-, H⟩; iexact H)
  unfold RchQ
  iintro #H
  isplitr; · iapply (h 0); iexact H
  isplitr; · iapply (h 1); iexact H
  isplitr; · iapply (h 2); iexact H
  iapply (h 3); iexact H

theorem dev_up (p : Fin 8) (hp : ¬ (p = 2 ∨ p = 4 ∨ p = 6)) (s : Fin 16) (hs : s ≠ 0) : devAt c p s = up c s := (devAt_eq c p s hs).trans (if_neg hp)
theorem dev_dn (p : Fin 8) (hp : p = 2 ∨ p = 4 ∨ p = 6) (s : Fin 16) (hs : s ≠ 0) : devAt c p s = dn c s := (devAt_eq c p s hs).trans (if_pos hp)

/-- The entry's signals. -/
theorem sigs (K : Tal) (k : P F) (Q : PUnit → sProp 𝕄) :
    iprop(Ctx I n ∗ (bigSepL peers (tokB c) ∗ bigSepL peers fun s => xGrant 0 c (-s)) ∗ owesE c (dues (brDue c) peers K) ∗ (owesE c K -∗ WP c k Q))
      ⊢ WP c (each peers (fun s => sigTo (devAt c 0 s)) k) Q := by
  have h := each_pay c (fun s => sigTo (devAt c 0 s)) (Ctx I n) (fun s => iprop(tokB c s ∗ xGrant 0 c (-s))) (fun _ => iprop(emp)) Q (brDue c)
    (fun s hs O k => step_sig I n c s hs O (devAt c 0 s) (dev_up c 0 (by decide) s hs) k Q) K k peers peers_ne
  rw [sepL_sep] at h
  iintro ⟨#HC, H, HO, Hk⟩
  iapply h
  isplitr; · iexact HC
  isplitl [H]; · iexact H
  isplitl [HO]; · iexact HO
  iintro ⟨-, HO⟩
  iapply Hk
  iexact HO

/-- The slots of buffer 0 as the entry's signals hand them over. -/
theorem entry_slots : iprop(Ctx I n ∗ Xany c 0 0 ∗ bigSepL peers (Xany c 0)) ⊢ iprop(Xany c 0 0 ∗ bigSepL peers fun s => xGrant 0 c (-s)) := by
  have h : iprop(bigSepL peers (Xany (F := F) c 0) ∗ bigSepL peers (rch c 1 0)) ⊢ bigSepL peers (xGrant (F := F) 0 c) := by
    rw [← sepL_sep]
    exact bigSepL_mono fun s _ => Entails.rfl
  have h' : iprop(xGrant (F := F) 0 c 0 ∗ bigSepL peers (xGrant (F := F) 0 c)) ⊢ iprop(xGrant (F := F) 0 c 0 ∗ bigSepL peers fun s => xGrant (F := F) 0 c (-s)) :=
    Entails.of_eq (peers_neg (xGrant (F := F) 0 c))
  iintro ⟨#HC, H0, H⟩
  ihave #HR := (ctx_rchQ0 I n c) $$ HC
  unfold RchQ
  icases HR with ⟨-, #HR, -, -⟩
  ihave H := h $$ [H]
  · isplitl [H]; · iexact H
    iexact HR
  ihave H' := h' $$ [H0 H]
  · isplitl [H0]
    · unfold xGrant
      isplitl [H0]; · iexact H0
      iapply (ctx_reached I n (c, some (1, 0, 0))); iexact HC
    iexact H
  unfold xGrant
  icases H' with ⟨⟨H0, -⟩, H⟩
  isplitl [H0]; · iexact H0
  iexact H

/-- The kernel on device `c`: from its buffers, positions, tokens and credits, with the inputs in the staging buffers, to its buffers,
    the result in its staging buffer, and every counter at zero. -/
theorem body_spec (f0 : Buf (Elt F) ((c : Thread nD τ).loc cc0_stg0_0)) (f1 : Buf (Elt F) ((c : Thread nD τ).loc cc0_stg1_0))
    (f2 : Buf (Elt F) ((c : Thread nD τ).loc cc0_stg2_0)) (f3 : Buf (Elt F) ((c : Thread nD τ).loc cc0_stg3_0)) (f4 : Buf (Elt F) ((c : Thread nD τ).loc cc0_stg4_0))
    (f5 : Buf (Elt F) ((c : Thread nD τ).loc cc0_stg5_0)) (f6 : Buf (Elt F) ((c : Thread nD τ).loc cc0_stg6_0)) (f7 : CO F)
    (h0 : (Memref.whole cc0_stg0_0).view.readAt (Elt F) (Rect.unit (s := S128x128) ![0, 0] S128x128.size inb_S128x128_S128x128_0_0).toLoadRect f0 = I.x c)
    (h1 : (Memref.whole cc0_stg1_0).view.readAt (Elt F) (Rect.unit (s := S128x256) ![0, 0] S128x256.size inb_S128x256_S128x256_0_0).toLoadRect f1 = I.w1 0 c)
    (h2 : (Memref.whole cc0_stg2_0).view.readAt (Elt F) (Rect.unit (s := S256x128) ![0, 0] S256x128.size inb_S256x128_S256x128_0_0).toLoadRect f2 = I.w2 0 c)
    (h3 : (Memref.whole cc0_stg3_0).view.readAt (Elt F) (Rect.unit (s := S128x256) ![0, 0] S128x256.size inb_S128x256_S128x256_0_0).toLoadRect f3 = I.w1 1 c)
    (h4 : (Memref.whole cc0_stg4_0).view.readAt (Elt F) (Rect.unit (s := S256x128) ![0, 0] S256x128.size inb_S256x128_S256x128_0_0).toLoadRect f4 = I.w2 1 c)
    (h5 : (Memref.whole cc0_stg5_0).view.readAt (Elt F) (Rect.unit (s := S128x256) ![0, 0] S128x256.size inb_S128x256_S128x256_0_0).toLoadRect f5 = I.w1 2 c)
    (h6 : (Memref.whole cc0_stg6_0).view.readAt (Elt F) (Rect.unit (s := S256x128) ![0, 0] S256x128.size inb_S256x128_S256x128_0_0).toLoadRect f6 = I.w2 2 c)
    (Q : PUnit → sProp 𝕄) :
    iprop(Ctx I n ∗ AllPos c (fun _ => 0) ∗ AllToks c ∗ AllCreds c ∗ Scr c
        ∗ (stg c cc0_stg0_0 f0 ∗ (stg c cc0_stg1_0 f1 ∗ stg c cc0_stg2_0 f2) ∗ (stg c cc0_stg3_0 f3 ∗ stg c cc0_stg4_0 f4) ∗ (stg c cc0_stg5_0 f5 ∗ stg c cc0_stg6_0 f6))
        ∗ stg c cc0_stg7_0 f7 ∗ owesE c (owed0 c)
        ∗ ((bigSep Finset.univ fun k : Key => semVal (kcell (c, k)) 0) ∗ Scr c
            ∗ (stg c cc0_stg0_0 f0 ∗ (stg c cc0_stg1_0 f1 ∗ stg c cc0_stg2_0 f2) ∗ (stg c cc0_stg3_0 f3 ∗ stg c cc0_stg4_0 f4) ∗ (stg c cc0_stg5_0 f5 ∗ stg c cc0_stg6_0 f6))
            ∗ stg c cc0_stg7_0 (OF (act I 3)) ∗ owesE c 0 -∗ Q ⟨⟩))
      ⊢ WP c (bodyOf (devAt c) (offAt c) (offAt_inb c)) Q := by
  have hL2 : Above (rsIx 2) (dues (agDue 3 c) peers 0) := above_dues (fun s => (above_ag 3 (by omega) c s).mono (by decide)) (above_zero _) _
  have hK2 : Above 6 (layerDues c 2 0) := above_dues (fun s => (above_rs 2 (by omega) c s).mono (by decide)) (hL2.mono (by decide)) _
  have hK1 : Above 4 (layerDues c 1 (layerDues c 2 0)) :=
    above_dues (fun s => (above_rs 1 (by omega) c s).mono (by decide)) (above_dues (fun s => (above_ag 2 (by omega) c s).mono (by decide)) (hK2.mono (by decide)) _) _
  have hK0 : Above 1 (dues (agDue 0 c) peers (layerDues c 0 (layerDues c 1 (layerDues c 2 0)))) :=
    above_dues (fun s => (above_ag 0 (by omega) c s).mono (by decide)) (above_dues (fun s => (above_rs 0 (by omega) c s).mono (by decide))
      (above_dues (fun s => (above_ag 1 (by omega) c s).mono (by decide)) (hK1.mono (by decide)) _) _) _
  rw [show owed0 c = dues (brDue c) peers (dues (agDue 0 c) peers (layerDues c 0 (layerDues c 1 (layerDues c 2 0)))) from rfl]
  unfold AllToks AllCreds
  iintro ⟨#HC, Hat, ⟨HtB, HtA0, HtR0, HtA1, HtR1, HtA2, HtR2, HtA3⟩, ⟨HcB, Hc10, Hc30, Hc11, Hc31, Hc12, Hc32, Hc13⟩, Hs, ⟨Hw0, Hw12, Hw34, Hw56⟩, Hw7, HO, Hk⟩
  ihave Hat := (pos_open c) $$ Hat
  icases Hat with ⟨HaB, Hz, HQ0, HQ1⟩
  ihave Hs := (scr_open c) $$ Hs
  unfold Slots
  icases Hs with ⟨⟨HX0, HX1⟩, HP, ⟨HR00, HR0⟩, HR1⟩
  ihave HX0 := (entry_slots I n c) $$ [HX0]
  · isplitr; · iexact HC
    iexact HX0
  icases HX0 with ⟨HX00, HX0⟩
  ihave #HRq0 := (ctx_rchQ0 I n c) $$ HC
  ihave #HRq1 := (ctx_rchQ1 I n c) $$ HC
  iapply (sigs I n c _ _ Q)
  isplitr; · iexact HC
  isplitl [HtB HX0]
  · isplitl [HtB] <;> iassumption
  isplitl [HO]; · iexact HO
  iintro HO
  iapply (step_barWait I n c _ hK0 _ Q)
  isplitr; · iexact HC
  isplitl [HaB HcB]
  · isplitl [HaB] <;> iassumption
  isplitl [HO]; · iexact HO
  rw [erase_peers]
  iintro ⟨⟨HaB, Hg⟩, HO⟩
  iapply (wp_load 𝒱₀ (c : Thread nD τ) none Set.univ (m := (Memref.whole cc0_stg0_0 : Memref sig .tc .vmem S128x128 .bf16)) (Finset.subset_univ _)) $$ Hw0; iintro Hw0
  rw [h0]
  iapply (step_putX c Q 0 (act I 0) (k0_pay1 (I.x c)) rfl _)
  isplitl [HX00]; · iexact HX00
  rw [leaves_x]
  iintro ⟨Hx0, Hx⟩
  ihave HR0 := (grants_keep c 0) $$ [HR0]
  · isplitl [HR0]; · iexact HR0
    unfold RchQ
    icases HRq0 with ⟨-, -, -, #H⟩
    iexact H
  icases HR0 with ⟨HRg, HRk⟩
  iapply (agSends I n c 0 (by omega) (devAt c 1) (dev_up c 1 (by decide)) _ _ Q peers peers_ne)
  isplitr; · iexact HC
  isplitl [Hx Hg HRg HtA0]
  · isplitl [Hx]; · iexact Hx
    isplitl [Hg]; · iexact Hg
    isplitl [HRg]; · iexact HRg
    isplitl [HtA0]; · iexact HtA0
    unfold RchQ
    icases HRq0 with ⟨#H, -, -, -⟩
    iexact H
  isplitl [HO]; · iexact HO
  iintro ⟨Hs0, HO⟩
  ihave HS := (show iprop(PosQ c 0 ∗ PosQ c 1 ∗ RchQ c 0 ∗ RchQ c 1 ∗ Xp c 0 0 (leaf 4 fullShare 0) (XF (act I 0) c) ∗ bigSepL peers (crd c 0 0 0)
      ∗ (Xany c 1 0 ∗ bigSepL peers (Xany c 1)) ∗ (Pany c 0 ∗ bigSepL peers (Pany c))
      ∗ (Rany c 0 0 ∗ bigSepL peers (keepR c 0)) ∗ Rany c 1 0 ∗ bigSepL peers (Rany c 1)) ⊢ State I c 0 from Entails.rfl) $$ [HQ0 HQ1 Hx0 Hs0 HX1 HP HR00 HRk HR1]
  · isplitl [HQ0]; · iexact HQ0
    isplitl [HQ1]; · iexact HQ1
    isplitr; · iexact HRq0
    isplitr; · iexact HRq1
    isplitl [Hx0]; · iexact Hx0
    isplitl [Hs0]; · iexact Hs0
    isplitl [HX1]; · iexact HX1
    isplitl [HP]; · iexact HP
    isplitl [HR00 HRk]
    · isplitl [HR00] <;> iassumption
    iexact HR1
  -- the three layers
  iapply (layer_spec I n c 0 (by omega) 0 1 rfl rfl (Memref.whole cc0_stg1_0) (Memref.whole cc0_stg2_0) (devAt c 2) (devAt c 3) (dev_dn c 2 (by decide)) (dev_up c 3 (by decide))
    f1 f2 h1 h2 _ (hK1.mono (by decide)) _ Q)
  isplitr; · iexact HC
  isplitl [HS]; · iexact HS
  isplitl [Hc10 HtR0 Hc30 HtA1]
  · unfold Toks
    isplitl [Hc10]; · iexact Hc10
    isplitl [HtR0]; · iexact HtR0
    isplitl [Hc30]; · iexact Hc30
    iexact HtA1
  isplitl [Hw12]; · iexact Hw12
  isplitl [HO]; · iexact HO
  iintro ⟨HS, Hw12, HO⟩
  iapply (layer_spec I n c 1 (by omega) 1 0 rfl rfl (Memref.whole cc0_stg3_0) (Memref.whole cc0_stg4_0) (devAt c 4) (devAt c 5) (dev_dn c 4 (by decide)) (dev_up c 5 (by decide))
    f3 f4 h3 h4 _ (hK2.mono (by decide)) _ Q)
  isplitr; · iexact HC
  isplitl [HS]; · iexact HS
  isplitl [Hc11 HtR1 Hc31 HtA2]
  · unfold Toks
    isplitl [Hc11]; · iexact Hc11
    isplitl [HtR1]; · iexact HtR1
    isplitl [Hc31]; · iexact Hc31
    iexact HtA2
  isplitl [Hw34]; · iexact Hw34
  isplitl [HO]; · iexact HO
  iintro ⟨HS, Hw34, HO⟩
  iapply (layer_spec I n c 2 (by omega) 0 1 rfl rfl (Memref.whole cc0_stg5_0) (Memref.whole cc0_stg6_0) (devAt c 6) (devAt c 7) (dev_dn c 6 (by decide)) (dev_up c 7 (by decide))
    f5 f6 h5 h6 0 (above_zero _) _ Q)
  isplitr; · iexact HC
  isplitl [HS]; · iexact HS
  isplitl [Hc12 HtR2 Hc32 HtA3]
  · unfold Toks
    isplitl [Hc12]; · iexact Hc12
    isplitl [HtR2]; · iexact HtR2
    isplitl [Hc32]; · iexact Hc32
    iexact HtA3
  isplitl [Hw56]; · iexact Hw56
  isplitl [HO]; · iexact HO
  iintro ⟨HS, Hw56, HO⟩
  -- the last all-gather
  ihave HS := (show State I c 3 ⊢ iprop((bigSepL peers (pAt c 0 3) ∗ bigSepL peers (pAt c 1 3) ∗ bigSepL peers (pAt c 2 3) ∗ bigSepL peers (pAt c 3 3)) ∗ PosQ c 4
      ∗ RchQ c 3 ∗ RchQ c 4 ∗ Xp c 1 0 (leaf 4 fullShare 0) (XF (act I 3) c) ∗ bigSepL peers (crd c 0 3 0)
      ∗ (Xany c 0 0 ∗ bigSepL peers (Xany c 0)) ∗ (Pany c 0 ∗ bigSepL peers (Pany c))
      ∗ (Rany c 1 0 ∗ bigSepL peers (Rany c 1)) ∗ Rany c 0 0 ∗ bigSepL peers (Rany c 0)) from Entails.rfl) $$ HS
  icases HS with ⟨⟨Ha0, Ha1, Ha2, Ha3⟩, HQ4, -, -, Hx0, Hs0, HX0, HP, HR1, HR0⟩
  iapply (step_emit c Q (act I 3) 0 (leaf 4 fullShare 0) f7 _)
  isplitl [Hx0]; · iexact Hx0
  isplitl [Hw7]; · iexact Hw7
  iintro ⟨Hx0, Hw7⟩
  have hf : ∀ i : S2048x128.Idx, (∃ s ∈ peers, slotOf (i 0) = dn c s) ∨ (if slotOf (i 0) = dn c 0 then OF (act I 3) i else f7 i) = OF (act I 3) i := by
    intro i
    by_cases h : slotOf (i 0) = dn c 0
    · exact Or.inr (if_pos h)
    · refine Or.inl ⟨c - slotOf (i 0), ?_, (sub_sub_cancel c (slotOf (i 0))).symm⟩
      have h' : ∀ s : Fin 16, s ≠ 0 → s ∈ peers := by decide
      exact h' _ fun e => h ((sub_eq_zero.mp e).symm.trans (sub_zero c).symm)
  iapply (emits I n c _ Q peers peers_ne _ hf)
  isplitr; · iexact HC
  isplitl [Ha1 Hc13]
  · isplitl [Ha1] <;> iassumption
  isplitl [HO]; · iexact HO
  isplitl [Hw7]; · iexact Hw7
  iintro ⟨Ha1, HX1, HO, Hw7⟩
  iapply (agSents I n c 3 (by omega) 0 (above_zero _) _ Q peers peers_ne)
  isplitr; · iexact HC
  isplitl [Ha0 Hs0]
  · isplitl [Ha0] <;> iassumption
  isplitl [HO]; · iexact HO
  iintro ⟨⟨⟨Ha0, -⟩, Hx⟩, HO⟩
  imod (close_all I n c) $$ [HaB Hz HQ4 Ha0 Ha1 Ha2 Ha3] with Hv
  · isplitr; · iexact HC
    iapply (pos_close c)
    isplitl [HaB]; · iexact HaB
    isplitl [Hz]; · iexact Hz
    isplitl [HQ4]; · iexact HQ4
    isplitl [Ha0]; · iexact Ha0
    isplitl [Ha1]; · iexact Ha1
    isplitl [Ha2] <;> iassumption
  rw [wp_ret]; imodintro
  iapply Hk
  isplitl [Hv]; · iexact Hv
  isplitl [Hx0 Hx HX1 HX0 HP HR1 HR0]
  · iapply (scr_close c)
    unfold Slots
    isplitl [Hx0 Hx HX1 HX0]
    · isplitl [HX0]; · iexact HX0
      isplitl [Hx0 Hx]
      · iapply (xany_of c 1 0 (XF (act I 3) c))
        rw [leaves_x]
        isplitl [Hx0]; · iexact Hx0
        iexact Hx
      · iapply (bigSepL_mono fun s _ => xany_of c 1 s (XF (act I 3) c)) $$ HX1
    isplitl [HP]; · iexact HP
    isplitl [HR0]; · iexact HR0
    iexact HR1
  isplitl [Hw0 Hw12 Hw34 Hw56]
  · isplitl [Hw0]; · iexact Hw0
    isplitl [Hw12]; · iexact Hw12
    isplitl [Hw34]; · iexact Hw34
    iexact Hw56
  isplitl [Hw7]; · iexact Hw7
  iexact HO

end

end Cert.KernelIdeal.Hand
-- ==== Proof.Ideal.Deal.lean ====
/- What the launch deals to the devices: the credits of their waits and the tokens of their duties. -/
module

public import proofs.«01_k».proof.Proof.Ideal.Body

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf)

variable {F : FTy → Type} [FloatOps F]

local notation "𝕄" => MT nD τ sig ℕ (Elt F) ℕ UU ℕ

/-! ## Around the ring -/

def upE (s : Fin 16) : Dev nD ≃ Dev nD := ⟨fun c => up c s, fun c => dn c s, fun c => add_sub_cancel_right c s, fun c => sub_add_cancel c s⟩
def dnE (s : Fin 16) : Dev nD ≃ Dev nD := ⟨fun c => dn c s, fun c => up c s, fun c => sub_add_cancel c s, fun c => add_sub_cancel_right c s⟩

/-- A family over two finite types, in either order. -/
theorem swap {A B : Type} [Fintype A] [Fintype B] (Φ : A → B → sProp 𝕄) :
    (bigSep Finset.univ fun a => bigSep Finset.univ fun b => Φ a b) = bigSep Finset.univ fun b => bigSep Finset.univ fun a => Φ a b := by
  rw [← bigSep_univ_prod fun x : A × B => Φ x.1 x.2, bigSep_univ_equiv (Equiv.prodComm B A), bigSep_univ_prod]
  rfl

/-- A family over devices and slots, each slot's members moved around the ring by a permutation of its own. -/
theorem pairs_around (e : Fin 16 → (Dev nD ≃ Dev nD)) (Φ : Dev nD → Fin 16 → sProp 𝕄) :
    (bigSep Finset.univ fun c : Dev nD => bigSep Finset.univ fun s : Fin 16 => Φ c s)
      = bigSep Finset.univ fun c : Dev nD => bigSep Finset.univ fun s : Fin 16 => Φ (e s c) s := by
  rw [swap, swap (fun c s => Φ (e s c) s)]
  exact bigSep_congr fun s _ => bigSep_univ_equiv (e s) fun c => Φ c s

/-! ## The credits at launch -/

/-- What all devices owe to one cell each, every device to another's, is that much credit on every device's. -/
theorem cred_perm (e : Dev nD ≃ Dev nD) (k : Key) (ι v : ℕ) (c : Dev nD) :
    (Pipeline.launchCred (fun d => (tallyAt (kcell (e d, k)) ι v : Tal)) c : sProp 𝕄) ⊢ cred (tallyAt (kcell (c, k)) ι v) := by
  refine (Pipeline.launchCred_elim _ c (keySem k)).trans (Entails.of_eq ?_)
  show cred (tallyOn (kcell (c, k)) _) = _
  refine congrArg cred ?_
  unfold tallyAt
  refine congrArg _ (Finsupp.ext fun ι' => ?_)
  rw [Pipeline.launchCredit_owing, Finset.sum_eq_single (e.symm c)]
  · show (tallyAt (kcell (e (e.symm c), k)) ι v : Tal) (kcell (c, k)) ι' = _
    rw [e.apply_symm_apply, tallyAt_apply, Finsupp.single_apply]
    by_cases h : ι = ι'
    · rw [if_pos ⟨rfl, h.symm⟩, if_pos h]
    · rw [if_neg fun h' => h h'.2.symm, if_neg h]
  · intro d _ hd
    show (tallyAt (kcell (e d, k)) ι v : Tal) (kcell (c, k)) ι' = 0
    rw [tallyAt_apply, if_neg]
    rintro ⟨h, -⟩
    exact hd (by rw [show c = e d from congrArg (fun x : Dev nD × Key => x.1) (kcell_inj h), e.symm_apply_apply])
  · intro h; exact absurd (Finset.mem_univ _) h

/-- The credit of a list of dues, slot by slot. -/
theorem cred_dues (f : Dev nD → Fin 16 → Tal) (K : Dev nD → Tal) (c : Dev nD) (Ψ : Fin 16 → sProp 𝕄)
    (h : ∀ s, (Pipeline.launchCred (fun d => f d s) c : sProp 𝕄) ⊢ Ψ s) :
    ∀ l : List (Fin 16), (Pipeline.launchCred (fun d => dues (f d) l (K d)) c : sProp 𝕄) ⊢ iprop(bigSepL l Ψ ∗ Pipeline.launchCred K c)
  | [] => by
    rw [bigSepL_nil]
    iintro H
    isplitr; · iempintro
    iexact H
  | s :: l => by
    have e : (Pipeline.launchCred (fun d => dues (f d) (s :: l) (K d)) c : sProp 𝕄)
        = iprop(Pipeline.launchCred (fun d => dues (f d) l (K d)) c ∗ Pipeline.launchCred (fun d => f d s) c) :=
      Pipeline.launchCred_add (fun d => dues (f d) l (K d)) (fun d => f d s) c
    have h1 := cred_dues f K c Ψ h l
    have h2 := h s
    rw [e, bigSepL_cons']
    iintro ⟨Hl, Hs⟩
    ihave Hl := h1 $$ Hl
    icases Hl with ⟨Hl, HK⟩
    ihave Hs := h2 $$ Hs
    isplitl [Hs Hl]
    · isplitl [Hs] <;> iassumption
    iexact HK

/-- Credits of one unit each on one cell are credit of their number. -/
theorem cred_units (g : GSem nD τ sig) (ι : ℕ) : ∀ l : List (Fin 16), bigSepL l (fun _ => (cred (tallyAt g ι 1) : sProp 𝕄)) ⊢ cred (tallyAt g ι l.length)
  | [] => by
    rw [bigSepL_nil, show (tallyAt g ι ([] : List (Fin 16)).length : Tal) = 0 from tallyAt_zero g ι, cred_zero]
    exact Entails.rfl
  | s :: l => by
    have h := cred_units g ι l
    rw [bigSepL_cons', List.length_cons, ← tallyAt_add]
    iintro ⟨Hs, Hl⟩
    ihave Hl := h $$ Hl
    iapply (cred_add _ _).2
    isplitl [Hl] <;> iassumption

/-- What the launch credits device `c` with is all that it waits for. -/
theorem creds (c : Dev nD) : (Pipeline.launchCred owed0 c : sProp 𝕄) ⊢ AllCreds c := by
  have hb : ∀ s, (Pipeline.launchCred (fun d => brDue d s) c : sProp 𝕄) ⊢ cred (tallyAt (bar c) 1 1) := fun s => cred_perm (upE s) none 1 1 c
  have ha : ∀ l s, (Pipeline.launchCred (fun d => agDue l d s) c : sProp 𝕄) ⊢ crd c 1 l (agIx l) s := fun l s => cred_perm (upE s) (some (1, par l, s)) (agIx l) N c
  have hr : ∀ l s, (Pipeline.launchCred (fun d => rsDue l d s) c : sProp 𝕄) ⊢ crd c 3 l (rsIx l) s := fun l s => cred_perm (dnE s) (some (3, par l, s)) (rsIx l) N c
  unfold AllCreds
  iintro H
  ihave H := (show (Pipeline.launchCred owed0 c : sProp 𝕄) ⊢ _ from cred_dues (fun d => brDue d) _ c _ hb peers) $$ H
  icases H with ⟨Hb, H⟩
  ihave H := (cred_dues (fun d => agDue 0 d) _ c _ (ha 0) peers) $$ H
  icases H with ⟨Ha0, H⟩
  ihave H := (cred_dues (fun d => rsDue 0 d) _ c _ (hr 0) peers) $$ H
  icases H with ⟨Hr0, H⟩
  ihave H := (cred_dues (fun d => agDue 1 d) _ c _ (ha 1) peers) $$ H
  icases H with ⟨Ha1, H⟩
  ihave H := (cred_dues (fun d => rsDue 1 d) _ c _ (hr 1) peers) $$ H
  icases H with ⟨Hr1, H⟩
  ihave H := (cred_dues (fun d => agDue 2 d) _ c _ (ha 2) peers) $$ H
  icases H with ⟨Ha2, H⟩
  ihave H := (cred_dues (fun d => rsDue 2 d) _ c _ (hr 2) peers) $$ H
  icases H with ⟨Hr2, H⟩
  ihave H := (cred_dues (fun d => agDue 3 d) (fun _ => 0) c _ (ha 3) peers) $$ H
  icases H with ⟨Ha3, -⟩
  isplitl [Hb]; · iapply (cred_units (bar c) 1 peers) $$ Hb
  isplitl [Ha0]; · iexact Ha0
  isplitl [Hr0]; · iexact Hr0
  isplitl [Ha1]; · iexact Ha1
  isplitl [Hr1]; · iexact Hr1
  isplitl [Ha2]; · iexact Ha2
  isplitl [Hr2]; · iexact Hr2
  iexact Ha3

/-! ## The tokens at launch -/

/-- The kinds of duties of a device's cells: the barrier's, and for each array, buffer and round that of an entry. -/
abbrev Kind : Type := Option (Fin 4 × Fin 2 × Fin 2)

/-- The duty of kind `j` on slot `s` of device `c`: the barrier's are told apart by their number, the others by their entry. -/
def tokOf (x : Dev nD × Kind × Fin 16) : GSem nD τ sig × ℕ × Fin 16 := match x.2.1 with
  | none => (bar x.1, 0, -x.2.2)
  | some (a, b, r) => (cell x.1 a b x.2.2, r.val, 0)

theorem tokOf_inj : Function.Injective tokOf := by
  rintro ⟨c, j, s⟩ ⟨c', j', s'⟩ h
  have hg : (tokOf (c, j, s)).1 = (tokOf (c', j', s')).1 := congrArg Prod.fst h
  have hr : (tokOf (c, j, s)).2.1 = (tokOf (c', j', s')).2.1 := congrArg (fun x => x.2.1) h
  have hd : (tokOf (c, j, s)).2.2 = (tokOf (c', j', s')).2.2 := congrArg (fun x => x.2.2) h
  rcases j with _ | ⟨a, b, r⟩ <;> rcases j' with _ | ⟨a', b', r'⟩
  · have h1 : (c, (none : Key)) = (c', none) := kcell_inj hg
    have h2 : s = s' := neg_injective hd
    rw [h2, show c = c' from congrArg (fun x : Dev nD × Key => x.1) h1]
  · have h1 : (c, (none : Key)) = (c', some (a', b', s')) := kcell_inj hg
    exact absurd (congrArg Prod.snd h1) (by simp)
  · have h1 : (c, some (a, b, s)) = (c', (none : Key)) := kcell_inj hg
    exact absurd (congrArg Prod.snd h1) (by simp)
  · have h1 : (c, some (a, b, s)) = (c', some (a', b', s')) := kcell_inj hg
    have h2 : r = r' := Fin.ext hr
    simp only [Prod.mk.injEq, Option.some.injEq] at h1
    obtain ⟨e1, e2, e3, e4⟩ := h1
    rw [e1, e2, e3, e4, h2]

def ringToks : Finset (GSem nD τ sig × ℕ × Fin 16) := Finset.univ.map ⟨tokOf, tokOf_inj⟩
def ringCells : Finset (GSem nD τ sig) := Finset.univ.map ⟨kcell, kcell_inj⟩

/-- A duty's token. -/
def tok (c : Dev nD) (j : Kind) (s : Fin 16) : sProp 𝕄 := dutyTok ER (tokOf (c, j, s)).1 (tokOf (c, j, s)).2.1 (tokOf (c, j, s)).2.2
/-- The tokens of device `c`'s own cells. -/
def toks (c : Dev nD) : sProp 𝕄 := bigSep Finset.univ fun j : Kind => bigSep Finset.univ fun s : Fin 16 => tok c j s

/-- Whose duty of a kind it is to pay on slot `s` of device `c`'s: the other way around, on whose cell `c` pays. -/
def payee : Kind → Fin 16 → (Dev nD ≃ Dev nD)
  | none, s => upE s
  | some (a, _, _), s => if a = 1 then upE s else if a = 3 then dnE s else Equiv.refl _

/-- A family over the kinds, written out. -/
theorem kinds_eq (Ψ : Kind → sProp 𝕄) : bigSep Finset.univ Ψ = iprop(Ψ none ∗ Ψ (some (0, 0, 0)) ∗ Ψ (some (1, 0, 0)) ∗ Ψ (some (2, 0, 0)) ∗ Ψ (some (3, 0, 0)) ∗ Ψ (some (0, 1, 0)) ∗ Ψ (some (1, 1, 0)) ∗ Ψ (some (2, 1, 0)) ∗ Ψ (some (3, 1, 0)) ∗ Ψ (some (0, 0, 1)) ∗ Ψ (some (1, 0, 1)) ∗ Ψ (some (2, 0, 1)) ∗ Ψ (some (3, 0, 1)) ∗ Ψ (some (0, 1, 1)) ∗ Ψ (some (1, 1, 1)) ∗ Ψ (some (2, 1, 1)) ∗ Ψ (some (3, 1, 1)) ∗ emp) :=
  (bigSep_univ_eq_bigSepL ([none, some (0, 0, 0), some (1, 0, 0), some (2, 0, 0), some (3, 0, 0), some (0, 1, 0), some (1, 1, 0), some (2, 1, 0), some (3, 1, 0), some (0, 0, 1), some (1, 0, 1), some (2, 0, 1), some (3, 0, 1), some (0, 1, 1), some (1, 1, 1), some (2, 1, 1), some (3, 1, 1)] : List Kind) (by decide) (by decide) Ψ).trans
    (by simp only [bigSepL_cons', bigSepL_nil]; rfl)

/-- The tokens, dealt to the devices that pay. -/
theorem toks_around : (bigSep Finset.univ fun c : Dev nD => (toks c : sProp 𝕄)) ⊢ bigSep Finset.univ fun c : Dev nD => AllToks c := by
  unfold toks
  rw [swap, bigSep_congr fun j _ => pairs_around (payee j) fun c s => tok c j s, swap]
  refine bigSep_mono fun c _ => ?_
  have h : ∀ Ψ : Fin 16 → sProp 𝕄, bigSep Finset.univ Ψ ⊢ bigSepL peers Ψ := fun Ψ => by
    rw [univ_peers]
    iintro ⟨-, H⟩
    iexact H
  refine (bigSep_mono fun j _ => h fun s => tok (payee j s c) j s).trans ?_
  rw [kinds_eq]
  have ha : ∀ l b r, par l = b → l / 2 = r.val → iprop(bigSepL peers (fun s => tok (F := F) (payee (some (0, b, r)) s c) (some (0, b, r)) s)
      ∗ bigSepL peers (fun s => tok (F := F) (payee (some (1, b, r)) s c) (some (1, b, r)) s)) ⊢ bigSepL peers (tokA c l) := by
    intro l b r hb hr
    subst hb
    rw [← sepL_sep]
    refine bigSepL_mono fun s _ => ?_
    unfold tokA
    rw [hr]
    exact Entails.rfl
  have hs : ∀ l b r, par l = b → l / 2 = r.val → iprop(bigSepL peers (fun s => tok (F := F) (payee (some (2, b, r)) s c) (some (2, b, r)) s)
      ∗ bigSepL peers (fun s => tok (F := F) (payee (some (3, b, r)) s c) (some (3, b, r)) s)) ⊢ bigSepL peers (tokR c l) := by
    intro l b r hb hr
    subst hb
    rw [← sepL_sep]
    refine bigSepL_mono fun s _ => ?_
    unfold tokR
    rw [hr]
    exact Entails.rfl
  have hb : bigSepL peers (fun s => tok (F := F) (payee none s c) none s) ⊢ bigSepL peers (tokB c) := bigSepL_mono fun s _ => Entails.rfl
  show (_ : sProp 𝕄) ⊢ (AllToks c : sProp 𝕄)
  iintro ⟨HB, H00, H10, H20, H30, H01, H11, H21, H31, H02, H12, H22, H32, H03, H13, -⟩
  unfold AllToks
  isplitl [HB]; · iapply hb $$ HB
  isplitl [H00 H10]
  · iapply (ha 0 0 0 rfl rfl); isplitl [H00] <;> iassumption
  isplitl [H20 H30]
  · iapply (hs 0 0 0 rfl rfl); isplitl [H20] <;> iassumption
  isplitl [H01 H11]
  · iapply (ha 1 1 0 rfl rfl); isplitl [H01] <;> iassumption
  isplitl [H21 H31]
  · iapply (hs 1 1 0 rfl rfl); isplitl [H21] <;> iassumption
  isplitl [H02 H12]
  · iapply (ha 2 0 1 rfl rfl); isplitl [H02] <;> iassumption
  isplitl [H22 H32]
  · iapply (hs 2 0 1 rfl rfl); isplitl [H22] <;> iassumption
  · iapply (ha 3 1 1 rfl rfl); isplitl [H03] <;> iassumption

end Cert.KernelIdeal.Hand
-- ==== Proof.Ideal.Run.lean ====
/- The launch of the kernel on the sixteen devices, and what its run ends with. -/
module

public import proofs.«01_k».proof.Proof.Ideal.Deal
public import proofs.«01_k».proof.Proof.Gen.KernelIdeal.Launch
public import proofs.«01_k».proof.Proof.Gen.KernelIdeal.Points
public import Idealize.ShloMosaic.Lib.Pipeline.CollectiveSegs

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf)
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-! ## The contents -/

/-- The state at launch: memory `m`, every counter zero. -/
def s₀ : MemSt nD τ sig (Elt F) := ⟨m, fun _ => 0, ρ⟩

/-- What device `c` reads of its arguments. -/
def in0 (c : Dev nD) : FVec F S128x128 .bf16 := (win0_0.blk (0 : Fin 1)).view.read (Elt F) (m ((c : Thread nD τ).loc main_arg0))
def in1 (c : Dev nD) : FVec F S128x256 .bf16 := (win0_1.blk (0 : Fin 1)).view.read (Elt F) (m ((c : Thread nD τ).loc main_arg1))
def in2 (c : Dev nD) : FVec F S256x128 .bf16 := (win0_2.blk (0 : Fin 1)).view.read (Elt F) (m ((c : Thread nD τ).loc main_arg2))
def in3 (c : Dev nD) : FVec F S128x256 .bf16 := (win0_3.blk (0 : Fin 1)).view.read (Elt F) (m ((c : Thread nD τ).loc main_arg3))
def in4 (c : Dev nD) : FVec F S256x128 .bf16 := (win0_4.blk (0 : Fin 1)).view.read (Elt F) (m ((c : Thread nD τ).loc main_arg4))
def in5 (c : Dev nD) : FVec F S128x256 .bf16 := (win0_5.blk (0 : Fin 1)).view.read (Elt F) (m ((c : Thread nD τ).loc main_arg5))
def in6 (c : Dev nD) : FVec F S256x128 .bf16 := (win0_6.blk (0 : Fin 1)).view.read (Elt F) (m ((c : Thread nD τ).loc main_arg6))

/-- The inputs of all devices, as launched. -/
def inputs : Inputs F where
  x := in0 m
  w1 l := match l with | 0 => in1 m | 1 => in3 m | _ => in5 m
  w2 l := match l with | 0 => in2 m | 1 => in4 m | _ => in6 m

/-- The result that every device computes. -/
def result : CO F := OF (act (inputs m) 3)

/-! ## The proof data -/

/-- What the launch gives device `c`, and what it holds when the kernel begins and when it has ended. -/
def ghost (c : Dev nD) : sProp 𝕄 :=
  iprop(∃ n : Dev nD × Key → ℕ, ((bigSep Finset.univ fun ck => cellInv ER (Rd (inputs m)) (n ck) (kcell ck)) ∗ (bigSep Finset.univ fun ck => reached ER (kcell ck) 0))
    ∗ AllPos c (fun _ => 0) ∗ AllToks c)
def start (c : Dev nD) : sProp 𝕄 := iprop(ghost m c ∗ levAts L lv ∗ AllCreds c)
def Φ₀ (c : Dev nD) : sProp 𝕄 := iprop(start m c ∗ Scr c)
def Φ₁ (c : Dev nD) : sProp 𝕄 := iprop(Scr c ∗ bigSep Finset.univ fun k : Key => semVal (kcell (c, k)) 0)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => in0 m c
    | ⟨1, _⟩ => in1 m c
    | ⟨2, _⟩ => in2 m c
    | ⟨3, _⟩ => in3 m c
    | ⟨4, _⟩ => in4 m c
    | ⟨5, _⟩ => in5 m c
    | ⟨6, _⟩ => in6 m c
    | ⟨7, _⟩ => result m
  Φ t := match t with
    | ⟨0, _⟩ => Φ₀ m c
    | ⟨_ + 1, _⟩ => Φ₁ c
  q _ := fullShare
  owed t := match t with
    | ⟨0, _⟩ => owed0 c
    | ⟨_ + 1, _⟩ => 0

theorem bigSep_W (Φ : Fin cfg0.W → sProp 𝕄) : bigSep Finset.univ Φ
    = iprop(Φ (0 : Fin 8) ∗ Φ (1 : Fin 8) ∗ Φ (2 : Fin 8) ∗ Φ (3 : Fin 8) ∗ Φ (4 : Fin 8) ∗ Φ (5 : Fin 8) ∗ Φ (6 : Fin 8) ∗ Φ (7 : Fin 8)) := bigSep_W0 Φ

theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body obligation -/

/-- A staging buffer holding `X`. -/
abbrev stgX (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem hz : (![0, 0] : Fin 2 → Nat) = fun _ => 0 := funext fun a => by fin_cases a <;> rfl

abbrev tt : Fin cfg0.N := t0_0

def bodyPre (c : Dev nD) : sProp 𝕄 :=
  iprop(Φ₀ m c ∗ (dats m ρ 0 c).owesAt 0 tt.castSucc
    ∗ (∃ d, stgX c cc0_stg0_0 ((dats m ρ 0 c).before (0 : Fin 8) tt d))
    ∗ (∃ d, stgX c cc0_stg1_0 ((dats m ρ 0 c).before (1 : Fin 8) tt d))
    ∗ (∃ d, stgX c cc0_stg2_0 ((dats m ρ 0 c).before (2 : Fin 8) tt d))
    ∗ (∃ d, stgX c cc0_stg3_0 ((dats m ρ 0 c).before (3 : Fin 8) tt d))
    ∗ (∃ d, stgX c cc0_stg4_0 ((dats m ρ 0 c).before (4 : Fin 8) tt d))
    ∗ (∃ d, stgX c cc0_stg5_0 ((dats m ρ 0 c).before (5 : Fin 8) tt d))
    ∗ (∃ d, stgX c cc0_stg6_0 ((dats m ρ 0 c).before (6 : Fin 8) tt d))
    ∗ (∃ d, stgX c cc0_stg7_0 ((dats m ρ 0 c).before (7 : Fin 8) tt d)))

def bodyPost (c : Dev nD) : sProp 𝕄 :=
  iprop(Φ₁ c ∗ (dats m ρ 0 c).owesAt 0 tt.succ ∗ stgX c cc0_stg0_0 (in0 m c) ∗ stgX c cc0_stg1_0 (in1 m c) ∗ stgX c cc0_stg2_0 (in2 m c)
    ∗ stgX c cc0_stg3_0 (in3 m c) ∗ stgX c cc0_stg4_0 (in4 m c) ∗ stgX c cc0_stg5_0 (in5 m c) ∗ stgX c cc0_stg6_0 (in6 m c) ∗ stgX c cc0_stg7_0 (result m))

/-- The body from what the pipeline hands it to what it takes back. -/
theorem sound_body (c : Dev nD) :
    bodyPre m ρ c ⊢ wp frame (wpE (defs₀ (F := F)) 𝒱₀ (c : Thread nD τ) none) Set.univ
      (.op .deviceId fun c => bodyOf (devAt c) (offAt c) (offAt_inb c) : P F) (fun _ => bodyPost m ρ c) := by
  rw [wp_deviceId]
  unfold bodyPre Φ₀ start ghost
  iintro ⟨⟨⟨⟨%n, ⟨#HI, #HR⟩, Hat, Htok⟩, #Hlev, Hcr⟩, Hscr⟩, Ho, ⟨%d0, %g0, %h0, H0⟩, ⟨%d1, %g1, %h1, H1⟩, ⟨%d2, %g2, %h2, H2⟩, ⟨%d3, %g3, %h3, H3⟩,
    ⟨%d4, %g4, %h4, H4⟩, ⟨%d5, %g5, %h5, H5⟩, ⟨%d6, %g6, %h6, H6⟩, ⟨%d7, %g7, %h7, H7⟩⟩
  have e0 : g0 = in0 m c := by rw [h0]; unfold Dat.before; rw [if_pos (fetch0_0 tt)]; rfl
  have e1 : g1 = in1 m c := by rw [h1]; unfold Dat.before; rw [if_pos (fetch0_1 tt)]; rfl
  have e2 : g2 = in2 m c := by rw [h2]; unfold Dat.before; rw [if_pos (fetch0_2 tt)]; rfl
  have e3 : g3 = in3 m c := by rw [h3]; unfold Dat.before; rw [if_pos (fetch0_3 tt)]; rfl
  have e4 : g4 = in4 m c := by rw [h4]; unfold Dat.before; rw [if_pos (fetch0_4 tt)]; rfl
  have e5 : g5 = in5 m c := by rw [h5]; unfold Dat.before; rw [if_pos (fetch0_5 tt)]; rfl
  have e6 : g6 = in6 m c := by rw [h6]; unfold Dat.before; rw [if_pos (fetch0_6 tt)]; rfl
  subst e0 e1 e2 e3 e4 e5 e6
  unfold Dat.owesAt Pipeline.owesWithin
  icases Ho with ⟨%W, %hW, HO⟩
  iapply (body_spec (inputs m) n c (in0 m c) (in1 m c) (in2 m c) (in3 m c) (in4 m c) (in5 m c) (in6 m c) g7
    (Memref.readAt_unit_zero (Elt F) cc0_stg0_0 hz _ _) (Memref.readAt_unit_zero (Elt F) cc0_stg1_0 hz _ _) (Memref.readAt_unit_zero (Elt F) cc0_stg2_0 hz _ _)
    (Memref.readAt_unit_zero (Elt F) cc0_stg3_0 hz _ _) (Memref.readAt_unit_zero (Elt F) cc0_stg4_0 hz _ _) (Memref.readAt_unit_zero (Elt F) cc0_stg5_0 hz _ _)
    (Memref.readAt_unit_zero (Elt F) cc0_stg6_0 hz _ _) _)
  isplitr
  · unfold Ctx
    isplitr; · iexact HI
    isplitr; · iexact HR
    iexact Hlev
  isplitl [Hat]; · iexact Hat
  isplitl [Htok]; · iexact Htok
  isplitl [Hcr]; · iexact Hcr
  isplitl [Hscr]; · iexact Hscr
  isplitl [H0 H1 H2 H3 H4 H5 H6]
  · isplitl [H0]; · iexact H0
    isplitl [H1 H2]
    · isplitl [H1]; · iexact H1
      iexact H2
    isplitl [H3 H4]
    · isplitl [H3]; · iexact H3
      iexact H4
    isplitl [H5]; · iexact H5
    iexact H6
  isplitl [H7]; · iexact H7
  isplitl [HO]
  · unfold owesE
    iexists W
    iexact HO
  iintro ⟨Hv, Hscr, ⟨H0, ⟨H1, H2⟩, ⟨H3, H4⟩, H5, H6⟩, H7, HO⟩
  unfold bodyPost Φ₁ owesE Dat.owesAt Pipeline.owesWithin
  icases HO with ⟨%W', HO⟩
  isplitl [Hscr Hv]
  · isplitl [Hscr] <;> iassumption
  isplitl [HO]
  · iexists W'
    isplitr; · (ipureintro; exact fun _ _ => Or.inl trivial)
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  isplitl [H4]
  · iexists _; isplitr; · (ipureintro; rfl)
    iexact H4
  isplitl [H5]
  · iexists _; isplitr; · (ipureintro; rfl)
    iexact H5
  isplitl [H6]
  · iexists _; isplitr; · (ipureintro; rfl)
    iexact H6
  iexists _; isplitr; · (ipureintro; rfl)
  iexact H7

set_option maxRecDepth 100000 in
/-- The library's body obligation on device `c`. -/
theorem body_obligation (c : Dev nD) : BodyObligation (dats (F := F) m ρ 0 c) (defs₀ (F := F)) 𝒱₀ 0 Set.univ := fun t => by
  rw [fin_N0 t]
  rw [bigSep_W, bigSep_W]
  simp only [owns_whole_eq]
  show bodyPre m ρ c ⊢ wp frame (wpE (defs₀ (F := F)) 𝒱₀ (c : Thread nD τ) none) Set.univ
    (cc0_body (F := F) (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _) (Memref.whole cc0_stg5_0) (Memref.isWhole_whole _)
      (Memref.whole cc0_stg6_0) (Memref.isWhole_whole _) (Memref.whole cc0_stg7_0) (Memref.isWhole_whole _)
      (Memref.whole cc0_scratch0) (Memref.isWhole_whole _) (Memref.whole cc0_scratch1) (Memref.isWhole_whole _)
      (Memref.whole cc0_scratch2) (Memref.isWhole_whole _) cc0_scratch3 cc0_scratch4 cc0_scratch5 cc0_scratch6) (fun _ => bodyPost m ρ c)
  rw [body_eq]
  exact sound_body m ρ c

/-! ## The launch -/

/-- The kernel's own semaphores: the entries of its four arrays. -/
abbrev osem : Fin 4 × Fin 2 × Fin 16 → SemLoc sig := fun q => keySem (some q)

theorem ownSemFacts : Pipeline.OwnSemFacts cfg0.spec osem where
  isScoped := by decide +kernel
  inj q q' h := by
    have h3 : some (some q) = some (some q') := by rw [← keyOf_keySem (some q), show keySem (some q) = keySem (some q') from h, keyOf_keySem]
    exact Option.some.inj (Option.some.inj h3)
  disj := by decide +kernel

theorem share_eq (c : Dev nD) (w : Fin cfg0.W) : (dats m ρ 0 c).share w = fullShare := by unfold Dat.share; split <;> rfl

def u₀ : UU := (initOf (Pipeline.cells cfgs cellOf_inj) (Pipeline.launchToks cfgs cellOf_inj), initOf ringCells ringToks)

/-- What the launch deals device `c` before the cells' invariants are made. -/
def G (c : Dev nD) : sProp 𝕄 :=
  iprop((bigSep Finset.univ fun k : Key => roundState ER (Rd (inputs m)) (kcell (c, k)) 0)
    ∗ (bigSep Finset.univ fun k : Key => iprop(atPos ER (kcell (c, k)) 0 ∅ 0 ∗ reached ER (kcell (c, k)) 0)) ∗ toks c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Key => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_prod]; rfl
  iintro HX
  imod (Rounds.fund ER (Rd (inputs m)) ringCells ringToks) $$ HX with ⟨Hst, Hr, Hat, Htok⟩
  imodintro
  ihave Hst' := (Entails.of_eq (hX fun g => roundState ER (Rd (inputs m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- A family over a device's cells: the barrier's member and the arrays'. -/
theorem key_split (Φ : Key → sProp 𝕄) : bigSep Finset.univ Φ = iprop(Φ none ∗ bigSep Finset.univ fun q : Fin 4 × Fin 2 × Fin 16 => Φ (some q)) := by
  have h : (Finset.univ : Finset Key) = insert none (Finset.univ.map Function.Embedding.some) := rfl
  rw [h, bigSep_insert (by simp), bigSep_map]
  rfl

/-- The barrier semaphore is the launch's one unscoped semaphore. -/
theorem unscopedSems0_eq (c : Dev nD) : (unscopedSems0 c : sProp 𝕄) = semVal (bar c) 0 := by
  unfold unscopedSems0; rw [bigSep_eq_bigSepL_of_eq [SemLoc.reg barS] (by decide +kernel) (by decide)]; rfl

theorem sems0_eq (c : Dev nD) :
    (bigSep Finset.univ fun k : Key => semVal (kcell (c, k)) 0 : sProp 𝕄)
      = iprop(unscopedSems0 c ∗ Pipeline.ownSems0 (Ix := ℕ) (Name := ℕ) (U := UU) (Lvl := ℕ) (Val := Elt F) (τ := τ) osem c) := by
  rw [key_split, unscopedSems0_eq]
  rfl

theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd (inputs m)) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun k : Key => semVal (kcell (c, k)) 0) ∗ bigSep Finset.univ fun k : Key => roundState ER (Rd (inputs m)) (kcell (c, k)) 0)
      ⊢ (|={Set.univ}=> bigSep Finset.univ fun k => iprop(∃ κ : ℕ, cellInv ER (Rd (inputs m)) κ (kcell (c, k))) : sProp 𝕄) from by
        rw [← bigSep_sep']
        exact (bigSep_mono fun k _ => (Rounds.body_intro ER (Rd (inputs m)) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- What all devices share once the invariants are made. -/
def records (n : Dev nD × Key → ℕ) : sProp 𝕄 :=
  iprop((bigSep Finset.univ fun ck => cellInv ER (Rd (inputs m)) (n ck) (kcell ck)) ∗ bigSep Finset.univ fun ck => reached ER (kcell ck) 0)

instance records_persistent (n : Dev nD × Key → ℕ) : BI.Persistent (records m n) := by unfold records; infer_instance

theorem ghost_intro (n : Dev nD × Key → ℕ) (c : Dev nD) : iprop(records m n ∗ AllPos c (fun _ => 0) ∗ AllToks c) ⊢ ghost m c := by
  unfold records ghost
  iintro ⟨#HR, H⟩
  iexists n
  isplitr; · iexact HR
  iexact H

theorem regroup :
    (bigSep Finset.univ fun c : Dev nD => iprop((bigSep Finset.univ fun k => iprop(∃ κ : ℕ, cellInv ER (Rd (inputs m)) κ (kcell (c, k))))
          ∗ (bigSep Finset.univ fun k => iprop(atPos ER (kcell (c, k)) 0 ∅ 0 ∗ reached ER (kcell (c, k)) 0)) ∗ toks c) : sProp 𝕄)
      ⊢ bigSep Finset.univ (ghost m) := by
  rw [bigSep_sep', bigSep_sep', ← bigSep_univ_prod (fun ck : Dev nD × Key => iprop(∃ κ : ℕ, cellInv ER (Rd (inputs m)) κ (kcell ck))),
    bigSep_congr (s := Finset.univ) (fun (c : Dev nD) _ => bigSep_sep' Finset.univ (fun k : Key => (atPos ER (kcell (c, k)) 0 ∅ 0 : sProp 𝕄)) (fun k => reached ER (kcell (c, k)) 0)),
    bigSep_sep', ← bigSep_univ_prod (fun ck : Dev nD × Key => (reached ER (kcell ck) 0 : sProp 𝕄))]
  iintro ⟨HI, ⟨Hat, #HR⟩, Htok⟩
  ihave HK := (BI.bigSep_exists_pi Finset.univ (fun (ck : Dev nD × Key) (κ : ℕ) => (cellInv ER (Rd (inputs m)) κ (kcell ck) : sProp 𝕄))) $$ HI
  icases HK with ⟨%n, #HI⟩
  ihave Htk := (toks_around (F := F)) $$ Htok
  iapply (show iprop(records m n ∗ bigSep Finset.univ fun c : Dev nD => iprop(AllPos c (fun _ => 0) ∗ AllToks c)) ⊢ bigSep Finset.univ (ghost m) from
    (sep_mono_left (BI.bigSep_of_persistent Finset.univ (records m n))).trans (by rw [← bigSep_sep']; exact bigSep_mono fun c _ => ghost_intro m n c))
  isplitr
  · unfold records; isplitl; · iexact HI
    iexact HR
  · iapply (Entails.of_eq (bigSep_sep' Finset.univ (fun c : Dev nD => AllPos (F := F) c (fun _ => 0)) AllToks).symm)
    isplitl [Hat]; · iexact Hat
    iexact Htk

/-- Every device's semaphores become its cells. -/
theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (ghost m) :=
  ((bigSep_mono fun c _ => core_alloc m c).trans (bigSep_fupd _ _)).trans (BI.fupd_mono (regroup m))

theorem start_intro (c : Dev nD) :
    iprop(Pipeline.unscopedRestP Pipeline.Prefetch.none cfg0.spec c (fun b => m ((c : Thread nD τ).loc b)) ∗ levAts L lv
        ∗ Pipeline.launchCred owed0 c ∗ prngReg c (ρ c) ∗ ghost m c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hlev]; · iexact Hlev
    iexact Hc
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ Scr
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ Scr
  rw [sems0_eq]
  iintro ⟨Hr, Hu, Ho⟩
  isplitl [Hu]; · iexact Hu
  isplitl [Ho]; · iexact Ho
  iexact Hr

theorem launch_waits (c : Dev nD) : (levAts L lv : sProp 𝕄) ⊢ Pipeline.cellsWaits cfgs (dats m ρ) 0 0 c :=
  Pipeline.cellsWaits_intro cfgs (dats m ρ) 0 0 c fun w s t =>
    mayWait c _ 0 (by omega) _ (by
      rcases t with ⟨_ | _, ht⟩
      · exact above_owed0 c
      · exact above_zero 0)

/-! ## The run -/

set_option maxRecDepth 100000 in
/-- The run at the sixteen devices, for any float values, from any memory with zero counters: every weakly fair execution terminates; it
    ends with every window's array at the computed contents and every counter at zero. -/
theorem run_arrays : θ_run defs (onTc (τ := τ) (main (F := F))) (s₀ m ρ) (fun r =>
    (∀ c : Dev nD, ∀ w : Fin cfg0.W, r.2.mem ((cfg0.win w).arr.view.loc (c : Thread nD τ)) = (dats m ρ 0 c).arrAt w cfg0.N) ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := owed0) (howed₀ := fun _ => rfl) (howedN := fun _ => rfl)
    (L := L) (lv := lv) (hL := L_of_ne) (hwaits := launch_waits m ρ)
    (G := G m) (G' := ghost m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The result's array after the run. -/
theorem out_eq (c : Dev nD) : (win0_7.blk (0 : Fin 1)).view.read (Elt F) ((dats m ρ 0 c).arrAt (7 : Fin 8) cfg0.N) = result m := by
  rw [show cfg0.N = ((0 : Fin 1) : Fin cfg0.N).val + 1 from rfl, (dats m ρ 0 c).arrAt_succ (7 : Fin 8) (0 : Fin 1)]
  rw [show (cfg0.win (7 : Fin 8)).flush (0 : Fin 1) = true from flush0_7 _, if_pos rfl]
  exact View.read_write_univ _ _

end Cert.KernelIdeal.Hand
-- ==== Proof.Ideal.End.lean ====
/- The run of the kernel, read at its arguments and its result. -/
module

public import proofs.«01_k».proof.Proof.Ideal.Run

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf)
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-! ## A window's one block is its array -/

theorem in0_eq (c : Dev nD) : in0 m c = m ((c : Thread nD τ).loc main_arg0) :=
  Memref.read_access_unit_zero (Elt F) main_arg0 (funext fun a => by fin_cases a <;> decide) (fun a => by fin_cases a <;> decide) _
theorem in1_eq (c : Dev nD) : in1 m c = m ((c : Thread nD τ).loc main_arg1) :=
  Memref.read_access_unit_zero (Elt F) main_arg1 (funext fun a => by fin_cases a <;> decide) (fun a => by fin_cases a <;> decide) _
theorem in2_eq (c : Dev nD) : in2 m c = m ((c : Thread nD τ).loc main_arg2) :=
  Memref.read_access_unit_zero (Elt F) main_arg2 (funext fun a => by fin_cases a <;> decide) (fun a => by fin_cases a <;> decide) _
theorem in3_eq (c : Dev nD) : in3 m c = m ((c : Thread nD τ).loc main_arg3) :=
  Memref.read_access_unit_zero (Elt F) main_arg3 (funext fun a => by fin_cases a <;> decide) (fun a => by fin_cases a <;> decide) _
theorem in4_eq (c : Dev nD) : in4 m c = m ((c : Thread nD τ).loc main_arg4) :=
  Memref.read_access_unit_zero (Elt F) main_arg4 (funext fun a => by fin_cases a <;> decide) (fun a => by fin_cases a <;> decide) _
theorem in5_eq (c : Dev nD) : in5 m c = m ((c : Thread nD τ).loc main_arg5) :=
  Memref.read_access_unit_zero (Elt F) main_arg5 (funext fun a => by fin_cases a <;> decide) (fun a => by fin_cases a <;> decide) _
theorem in6_eq (c : Dev nD) : in6 m c = m ((c : Thread nD τ).loc main_arg6) :=
  Memref.read_access_unit_zero (Elt F) main_arg6 (funext fun a => by fin_cases a <;> decide) (fun a => by fin_cases a <;> decide) _
theorem out_whole (f : (main_v1 : Ref sig .tc).ty.Contents (Elt F)) : (win0_7.blk (0 : Fin 1)).view.read (Elt F) f = f :=
  Memref.read_access_unit_zero (Elt F) main_v1 (funext fun a => by fin_cases a <;> decide) (fun a => by fin_cases a <;> decide) f

/-- Every weakly fair run of the sixteen devices, for any float values and from any memory with zero counters, terminates. Each device then
    holds `result m` in its result, its arguments as they were, and every counter is zero. -/
theorem run_main : θ_run defs (onTc (τ := τ) (main (F := F))) ⟨m, fun _ => 0, ρ⟩ (fun r => (∀ c : Dev nD,
      r.2.mem ((c.tc : Thread nD τ).loc main_v1) = result m
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c =>
    ⟨(h.1 c (7 : Fin 8)).trans ((out_whole _).symm.trans (out_eq m ρ c)),
      (h.1 c (0 : Fin 8)).trans ((dats m ρ 0 c).arrAt_in (0 : Fin 8) rfl _),
      (h.1 c (1 : Fin 8)).trans ((dats m ρ 0 c).arrAt_in (1 : Fin 8) rfl _),
      (h.1 c (2 : Fin 8)).trans ((dats m ρ 0 c).arrAt_in (2 : Fin 8) rfl _),
      (h.1 c (3 : Fin 8)).trans ((dats m ρ 0 c).arrAt_in (3 : Fin 8) rfl _),
      (h.1 c (4 : Fin 8)).trans ((dats m ρ 0 c).arrAt_in (4 : Fin 8) rfl _),
      (h.1 c (5 : Fin 8)).trans ((dats m ρ 0 c).arrAt_in (5 : Fin 8) rfl _),
      (h.1 c (6 : Fin 8)).trans ((dats m ρ 0 c).arrAt_in (6 : Fin 8) rfl _)⟩, h.2⟩) (run_arrays m ρ)

end Cert.KernelIdeal.Hand
-- ==== Proof.Value.Block.lean ====
/- What the kernel's arithmetic computes over the extended reals: one block of rows through one device's share of a
   layer, and the sum of the sixteen shares. -/
module

public import proofs.«01_k».proof.Proof.Ideal.Slots
public import proofs.«01_k».proof.Proof.Ideal.Steps
public import Idealize.ShloMosaic.Lib.Pointwise

@[expose] public section

noncomputable section

namespace Cert.KernelIdeal.Hand

open Cert.KernelIdeal Cert.KernelIdeal.Gen
open Idealize.ShloMosaic

/-- Row `i`, column `j` of a block's product with one device's share of a layer: the sum over that device's 256 hidden
    units of the unit's clipped value times its outgoing weight. -/
def share (A : Blk Ideal) (w1 : FVec Ideal S128x256 .bf16) (w2 : FVec Ideal S256x128 .bf16) (i j : Fin 128) : EReal :=
  ∑ h : Fin 256, max (∑ k : Fin 128, A (ix3 0 i k) * w1 (ix2 k h)) 0 * w2 (ix2 h j)

set_option maxRecDepth 16384 in
/-- A group's product, at a slot of the group and an element of the slot. -/
theorem pay7_apply (w1 : FVec Ideal S128x256 .bf16) (w2 : FVec Ideal S256x128 .bf16) (v : FVec Ideal S1x512x128 .bf16)
    (q : Fin 4) (i j : Fin 128) :
    (k0_pay7 (F := Ideal) w1 w2 v (ix3 q i j) : EReal)
      = ∑ h : Fin 256, max (∑ k : Fin 128, v (ix3 0 ⟨128 * q.val + i.val, by omega⟩ k) * w1 (ix2 k h)) 0 * w2 (ix2 h j) := by
  pointwise [k0_pay7]
  simp only [Nat.mul_comm]

set_option maxRecDepth 16384 in
/-- The sum of the sixteen received products. -/
theorem pay11_apply (v : FVec Ideal S1x16x128x128 .bf16) (i j : Fin 128) :
    (k0_pay11 (F := Ideal) v (ix3 0 i j) : EReal) = ∑ s : Fin 16, v (ix4 0 s i j) := by
  pointwise [k0_pay11]

/-- The first block is the device's rows of `x`. -/
theorem pay1_apply (v : FVec Ideal S128x128 .bf16) (i j : Fin 128) : k0_pay1 v (ix3 0 i j) = v (ix2 i j) := by
  pointwise [k0_pay1]

/-- The result's rows are the last block. -/
theorem pay30_apply (v : Blk Ideal) (i j : Fin 128) : (k0_pay30 (F := Ideal) v (ix2 i j) : EReal) = v (ix3 0 i j) := by
  pointwise [k0_pay30]

theorem pay2_eq (v : FVec Ideal S128x256 .bf16) : k0_pay2 v = v := by
  funext i
  pointwise [k0_pay2]

theorem pay3_eq (v : FVec Ideal S256x128 .bf16) : k0_pay3 v = v := by
  funext i
  pointwise [k0_pay3]

/-- A group of rows, read from `xfull`. -/
theorem read_group (b : Fin 2) (g : Fin 4) (X : CX Ideal) (r : Fin 512) (k : Fin 128) :
    xM.view.readAt (Elt Ideal) (xR4 b g).toLoadRect X (ix3 0 r k) = X (ix3 b ⟨512 * g.val + r.val, by omega⟩ k) := by
  refine congrArg X ?_
  refine Shape.idx3_ext ?_ ?_ ?_
  · show b.val + 1 * 0 = b.val; omega
  · show 512 * g.val + 1 * r.val = 512 * g.val + r.val; omega
  · show 0 + 1 * k.val = k.val; omega

/-- One buffer of received products, read from `rs_buf`. -/
theorem read_received (b : Fin 2) (X : CR Ideal) (s : Fin 16) (i j : Fin 128) :
    rM.view.readAt (Elt Ideal) (rR16 b).toLoadRect X (ix4 0 s i j) = X (ix4 b s i j) := by
  refine congrArg X ?_
  funext a
  match a with
  | ⟨0, _⟩ => exact Fin.ext (show b.val + 1 * 0 = b.val by omega)
  | ⟨1, _⟩ => exact Fin.ext (show 0 + 1 * s.val = s.val by omega)
  | ⟨2, _⟩ => exact Fin.ext (show 0 + 1 * i.val = i.val by omega)
  | ⟨3, _⟩ => exact Fin.ext (show 0 + 1 * j.val = j.val by omega)

/-- A row of `xfull`, by its slot. -/
theorem XF_row (A : Dev nD → Blk Ideal) (d : Dev nD) (b : Fin 2) (s : Fin 16) (i k : Fin 128) (r : Fin 2048)
    (hr : r.val = 128 * s.val + i.val) : XF A d (ix3 b r k) = A (dn d s) (ix3 0 i k) := by
  have h₁ : slotOf r = s := Fin.ext (show r.val / 128 = s.val by omega)
  have h₂ : rowOf r = i := Fin.ext (show r.val % 128 = i.val by omega)
  show A (dn d (slotOf r)) (ix3 0 (rowOf r) k) = _
  rw [h₁, h₂]

/-- Slot `s` of a device's products is the block of the device `s` places before, through this device's share. -/
theorem PF_apply (w1 : FVec Ideal S128x256 .bf16) (w2 : FVec Ideal S256x128 .bf16) (b : Fin 2) (A : Dev nD → Blk Ideal)
    (d : Dev nD) (s : Fin 16) (i j : Fin 128) :
    (PF w1 w2 b (XF A d) (ix3 s i j) : EReal) = share (A (dn d s)) w1 w2 i j := by
  unfold PF share
  erw [pay7_apply]
  refine Finset.sum_congr rfl fun h _ => ?_
  congr 2
  refine Finset.sum_congr rfl fun k _ => ?_
  congr 1
  refine (read_group b _ (XF A d) _ k).trans (XF_row A d b s i k _ ?_)
  show 512 * (s.val / 4) + (128 * (s.val % 4) + i.val) = _
  omega

/-- The next block: the sum over all devices of their shares. -/
theorem act_apply (I : Inputs Ideal) (l : ℕ) (c : Dev nD) (i j : Fin 128) :
    (act I (l + 1) c (ix3 0 i j) : EReal) = ∑ d : Dev nD, share (act I l c) (I.w1 l d) (I.w2 l d) i j := by
  refine (pay11_apply _ i j).trans ?_
  refine (Finset.sum_congr rfl fun s _ => ?_).trans
    (Equiv.sum_comp (Equiv.addLeft (c : Fin 16)) fun d : Fin 16 => share (act I l c) (I.w1 l d) (I.w2 l d) i j)
  refine (read_received (par l) _ s i j).trans ?_
  show (PF (k0_pay2 (I.w1 l (up c s))) (k0_pay3 (I.w2 l (up c s))) (par l) (XF (act I l) (up c s)) (ix3 s i j) : EReal) = _
  rw [PF_apply, pay2_eq, pay3_eq, dn_up]
  rfl

end Cert.KernelIdeal.Hand

end
-- ==== Proof.Value.Whole.lean ====
/- What the reference computes over the extended reals: one layer on the whole arrays, and a layer's sum over its 4096
   hidden units as sixteen sums of 256. -/
module

public import proofs.«01_k».proof.Proof.Gen.ReferenceIdeal.Run
public import Idealize.ShloMosaic.Lib.Pointwise

@[expose] public section

noncomputable section

namespace Cert.ReferenceIdeal.Whole

open Cert.ReferenceIdeal Cert.ReferenceIdeal.Gen
open Idealize.ShloMosaic Idealize.ShloMosaic.StableHlo

/-- One layer of the reference: a product, the clipping at zero and the second product, each product rounded. -/
def mlp (X : FVec Ideal S2048x128 .bf16) (W1 : FVec Ideal S128x4096 .bf16) (W2 : FVec Ideal S4096x128 .bf16) : FVec Ideal S2048x128 .bf16 :=
  truncf .bf16 (Host.dotGeneral dot_S2048x4096_S4096x128_S2048x128_1_0_0_1_n_n none
    (maximumf (truncf .bf16 (Host.dotGeneral dot_S2048x128_S128x4096_S2048x4096_1_0_0_1_n_n none X W1 : FVec Ideal S2048x4096 .f32) bitsLt_bf16_f32)
      (broadcastInDim S2048x4096 ![] bcast_S_S2048x4096 (constant S_ .bf16 0x0000#16))) W2 : FVec Ideal S2048x128 .f32) bitsLt_bf16_f32

set_option maxRecDepth 16384 in
/-- A layer at an index: the sum over the hidden units of the clipped value times the outgoing weight. -/
theorem mlp_apply (X : FVec Ideal S2048x128 .bf16) (W1 : FVec Ideal S128x4096 .bf16) (W2 : FVec Ideal S4096x128 .bf16)
    (r : Fin 2048) (j : Fin 128) :
    (mlp X W1 W2 (ix2 r j) : EReal)
      = ∑ h : Fin 4096, max (∑ k : Fin 128, X (ix2 r k) * W1 (ix2 k h)) 0 * W2 (ix2 h j) := by
  pointwise [mlp]

/-- The reference's result: three layers. -/
def net (X : FVec Ideal S2048x128 .bf16) (U0 : FVec Ideal S128x4096 .bf16) (V0 : FVec Ideal S4096x128 .bf16)
    (U1 : FVec Ideal S128x4096 .bf16) (V1 : FVec Ideal S4096x128 .bf16) (U2 : FVec Ideal S128x4096 .bf16)
    (V2 : FVec Ideal S4096x128 .bf16) : FVec Ideal S2048x128 .f32 :=
  extf .f32 (mlp (mlp (mlp X U0 V0) U1 V1) U2 V2) bitsLt_bf16_f32

/-- A sum over the hidden units, by the device that holds them. -/
theorem sum_hidden (f : Fin 4096 → EReal) :
    ∑ h : Fin 4096, f h = ∑ d : Fin 16, ∑ h : Fin 256, f ⟨256 * d.val + h.val, by omega⟩ := by
  rw [← Equiv.sum_comp (finProdFinEquiv : Fin 16 × Fin 256 ≃ Fin 4096) f, Fintype.sum_prod_type]
  refine Finset.sum_congr rfl fun d _ => Finset.sum_congr rfl fun h _ => congrArg f (Fin.ext ?_)
  show h.val + 256 * d.val = 256 * d.val + h.val
  omega

end Cert.ReferenceIdeal.Whole

end
-- ==== Proof.Value.Equal.lean ====
/- The equation: each device's activation block is its rows of the reference's activations, layer by layer, and so the
   result on every device is the reference's. -/
module

public import proofs.«01_k».proof.Proof.Ideal.End
public import proofs.«01_k».proof.Proof.Value.Block
public import proofs.«01_k».proof.Proof.Value.Whole
public import Idealize.ShloMosaic.Lib.Layout

@[expose] public section

noncomputable section

namespace Cert.KernelIdeal.Hand

open Cert.KernelIdeal Cert.KernelIdeal.Gen
open Idealize.ShloMosaic
open Cert.ReferenceIdeal.Whole

/-- The whole arrays: rows of `x`, and the weights. -/
abbrev WX : Type := FVec Ideal Cert.ReferenceIdeal.S2048x128 .bf16
abbrev W1 : Type := FVec Ideal Cert.ReferenceIdeal.S128x4096 .bf16
abbrev W2 : Type := FVec Ideal Cert.ReferenceIdeal.S4096x128 .bf16

/-- Row `i` of device `c`'s block, in the whole array. -/
abbrev rowAt (c : Fin 16) (i : Fin 128) : Fin 2048 := ⟨128 * c.val + i.val, by omega⟩

/-- The blocks `A` are the rows of `X`. -/
def RowsOf (A : Dev nD → Blk Ideal) (X : WX) : Prop :=
  ∀ (c : Fin 16) (i k : Fin 128), (A c (ix3 0 i k) : EReal) = X (ix2 (rowAt c i) k)

/-- Device `d`'s part of an incoming weight: 256 columns. -/
theorem cols_apply (V : W1) (d : Fin 16) (k : Fin 128) (h : Fin 256) :
    Layout.block ⟨2, ![128, 256]⟩ ⟨2, ![128, 4096]⟩ 1 16 d V (by decide) (ix2 k h) = V (ix2 k ⟨256 * d.val + h.val, by omega⟩) := by
  refine congrArg V ?_
  funext a
  match a with
  | ⟨0, _⟩ => rfl
  | ⟨1, _⟩ => exact Fin.ext (show d.val * 256 + h.val = 256 * d.val + h.val by omega)

/-- Device `d`'s part of an outgoing weight: 256 rows. -/
theorem rows_apply (V : W2) (d : Fin 16) (h : Fin 256) (j : Fin 128) :
    Layout.block ⟨2, ![256, 128]⟩ ⟨2, ![4096, 128]⟩ 0 16 d V (by decide) (ix2 h j) = V (ix2 ⟨256 * d.val + h.val, by omega⟩ j) := by
  refine congrArg V ?_
  funext a
  match a with
  | ⟨0, _⟩ => exact Fin.ext (show d.val * 256 + h.val = 256 * d.val + h.val by omega)
  | ⟨1, _⟩ => rfl

/-- Device `c`'s part of `x`: 128 rows. -/
theorem x_apply (X : WX) (c : Fin 16) (i k : Fin 128) :
    Layout.block ⟨2, ![128, 128]⟩ ⟨2, ![2048, 128]⟩ 0 16 c X (by decide) (ix2 i k) = X (ix2 (rowAt c i) k) := by
  refine congrArg X ?_
  funext a
  match a with
  | ⟨0, _⟩ => exact Fin.ext (show c.val * 128 + i.val = 128 * c.val + i.val by omega)
  | ⟨1, _⟩ => rfl

/-- If the blocks before a layer are the rows of `X`, those after it are the rows of the layer's value at `X`. -/
theorem step (I : Inputs Ideal) (l : ℕ) (X : WX) (U : W1) (V : W2) (hX : RowsOf (act I l) X)
    (h1 : ∀ d : Fin 16, I.w1 l d = Layout.block ⟨2, ![128, 256]⟩ ⟨2, ![128, 4096]⟩ 1 16 d U (by decide))
    (h2 : ∀ d : Fin 16, I.w2 l d = Layout.block ⟨2, ![256, 128]⟩ ⟨2, ![4096, 128]⟩ 0 16 d V (by decide)) :
    RowsOf (act I (l + 1)) (mlp X U V) := by
  intro c i j
  rw [act_apply, mlp_apply, sum_hidden]
  refine Finset.sum_congr rfl fun d _ => Finset.sum_congr rfl fun h _ => ?_
  rw [h1 d, h2 d, rows_apply]
  congr 2
  refine Finset.sum_congr rfl fun k _ => ?_
  rw [hX c i k, cols_apply]

/-- The result's buffer, from blocks that are the rows of `X`, is `X`. -/
theorem OF_eq (A : Dev nD → Blk Ideal) (X : WX) (hX : RowsOf A X) (i : S2048x128.Idx) : (OF A i : EReal) = X i := by
  unfold OF
  refine (pay30_apply _ _ _).trans ((hX _ _ _).trans (congrArg X ?_))
  funext a
  match a with
  | ⟨0, _⟩ => exact Fin.ext (show 128 * ((i 0).val / 128) + (i 0).val % 128 = (i 0).val by omega)
  | ⟨1, _⟩ => rfl

/-- From arguments that are the devices' parts of whole arrays, the result is the reference's value at these arrays. -/
theorem result_eq (m : (ℓ : Loc nD τ sig) → Buf (Elt Ideal) ℓ) (X : WX) (U : Fin 3 → W1) (V : Fin 3 → W2)
    (hx : ∀ c : Fin 16, in0 m c = Layout.block ⟨2, ![128, 128]⟩ ⟨2, ![2048, 128]⟩ 0 16 c X (by decide))
    (h1 : ∀ (l : Fin 3) (c : Fin 16), (inputs m).w1 l c = Layout.block ⟨2, ![128, 256]⟩ ⟨2, ![128, 4096]⟩ 1 16 c (U l) (by decide))
    (h2 : ∀ (l : Fin 3) (c : Fin 16), (inputs m).w2 l c = Layout.block ⟨2, ![256, 128]⟩ ⟨2, ![4096, 128]⟩ 0 16 c (V l) (by decide)) :
    result m = net X (U 0) (V 0) (U 1) (V 1) (U 2) (V 2) := by
  have h0 : RowsOf (act (inputs m) 0) X := fun c i k =>
    (pay1_apply (in0 m c) i k).trans ((congrFun (hx c) (ix2 i k)).trans (x_apply X c i k))
  exact funext fun i => OF_eq _ _
    (step _ 2 _ _ _ (step _ 1 _ _ _ (step _ 0 _ _ _ h0 (h1 0) (h2 0)) (h1 1) (h2 1)) (h1 2) (h2 2)) i

end Cert.KernelIdeal.Hand

end
-- ==== Proof.lean ====
/- The certificate: the frames of the kernel, of its ideal program and of the reference, and the equation of the two
   ideal programs. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Ideal.End
public import proofs.«01_k».proof.Proof.Bits.End
public import proofs.«01_k».proof.Proof.Value.Equal
public import Idealize.ShloMosaic.Adequacy
public import Idealize.ShloMosaic.Init

@[expose] public section

noncomputable section

namespace Cert.Proof

open Idealize.ShloMosaic Idealize.SL.Sem Cert.Kernel

/-- From any memory that meets the precondition, every fair run of the kernel on bit patterns ends, with each argument
    as it was and every counter at zero. -/
theorem frame_kernel : Cert.quiescent_Kernel := fun m ρ _ =>
  (θ_run Cert.Kernel.defs _ _).mono (fun _ h => ⟨fun c => (h.1 c).2, h.2⟩)
    (Cert.Kernel.Hand.run_main (F := Bits) m ρ)

/-- The same for the kernel on extended reals. -/
theorem frame_ideal : Cert.quiescent_KernelIdeal := fun m ρ _ =>
  (θ_run Cert.KernelIdeal.defs _ _).mono (fun _ h => ⟨fun c => (h.1 c).2, h.2⟩)
    (Cert.KernelIdeal.Hand.run_main (F := Ideal) m ρ)

/-- The same for the reference on extended reals; it declares no semaphore, so all its counters are zero. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Over the extended reals the kernel's result on every device is the reference's, from arguments that are the devices'
    parts of the reference's. -/
theorem algebraic : Cert.algebraic_KernelIdeal_ReferenceIdeal := by
  intro m ρ m' ρ' _ h
  have hres := Cert.KernelIdeal.Hand.result_eq m
    (m' (((0 : Dev Cert.ReferenceIdeal.nD).tc : Thread Cert.ReferenceIdeal.nD Cert.ReferenceIdeal.τ).loc Cert.ReferenceIdeal.main_arg0))
    ![m' (((0 : Dev Cert.ReferenceIdeal.nD).tc : Thread Cert.ReferenceIdeal.nD Cert.ReferenceIdeal.τ).loc Cert.ReferenceIdeal.main_arg1),
      m' (((0 : Dev Cert.ReferenceIdeal.nD).tc : Thread Cert.ReferenceIdeal.nD Cert.ReferenceIdeal.τ).loc Cert.ReferenceIdeal.main_arg3),
      m' (((0 : Dev Cert.ReferenceIdeal.nD).tc : Thread Cert.ReferenceIdeal.nD Cert.ReferenceIdeal.τ).loc Cert.ReferenceIdeal.main_arg5)]
    ![m' (((0 : Dev Cert.ReferenceIdeal.nD).tc : Thread Cert.ReferenceIdeal.nD Cert.ReferenceIdeal.τ).loc Cert.ReferenceIdeal.main_arg2),
      m' (((0 : Dev Cert.ReferenceIdeal.nD).tc : Thread Cert.ReferenceIdeal.nD Cert.ReferenceIdeal.τ).loc Cert.ReferenceIdeal.main_arg4),
      m' (((0 : Dev Cert.ReferenceIdeal.nD).tc : Thread Cert.ReferenceIdeal.nD Cert.ReferenceIdeal.τ).loc Cert.ReferenceIdeal.main_arg6)]
    (fun c => (Cert.KernelIdeal.Hand.in0_eq m c).trans (h c).1)
    (fun l c => match l with
      | 0 => (Cert.KernelIdeal.Hand.in1_eq m c).trans (h c).2.1
      | 1 => (Cert.KernelIdeal.Hand.in3_eq m c).trans (h c).2.2.2.1
      | 2 => (Cert.KernelIdeal.Hand.in5_eq m c).trans (h c).2.2.2.2.2.1)
    (fun l c => match l with
      | 0 => (Cert.KernelIdeal.Hand.in2_eq m c).trans (h c).2.2.1
      | 1 => (Cert.KernelIdeal.Hand.in4_eq m c).trans (h c).2.2.2.2.1
      | 2 => (Cert.KernelIdeal.Hand.in6_eq m c).trans (h c).2.2.2.2.2.2)
  exact ⟨_, (θ_run Cert.KernelIdeal.defs _ _).mono (fun _ r c => ⟨(r.1 c).1.trans hres, (r.1 c).2⟩)
      (Cert.KernelIdeal.Hand.run_main (F := Ideal) m ρ),
    (θ_run Cert.ReferenceIdeal.defs _ _).mono (fun _ r => r 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_ideal, frame_reference, trivial, algebraic⟩

end Cert.Proof

end
